-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "k0c" .f32 0xBDD2D3E8#32 ((((-6693141 / 4194304) * (Real.log 2)⁻¹) * (12003091 / 268435456) : ℝ) : EReal)
  ∧ IdealRules.named_const.Statement Cert.Kernel2Ideal.κ "k0" .f32 0xC0135761#32 (((-6693141 / 4194304) * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "k0c" .f32 0xBDD2D3E8#32 ((((-6693141 / 4194304) * (Real.log 2)⁻¹) * (12003091 / 268435456) : ℝ) : EReal)
  ∧ IdealRules.named_const.Statement Cert.Kernel3Ideal.κ "k0" .f32 0xC0135761#32 (((-6693141 / 4194304) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16384x1024 : Shape := ⟨2, ![16384, 1024]⟩
abbrev S256x1024 : Shape := ⟨2, ![256, 1024]⟩
abbrev S1024x256 : Shape := ⟨2, ![1024, 256]⟩
abbrev S1024x16384 : Shape := ⟨2, ![1024, 16384]⟩
abbrev S1x4x64 : Shape := ⟨3, ![1, 4, 64]⟩
abbrev S1x128 : Shape := ⟨2, ![1, 128]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S256x1024 : S_.BroadcastsInDim S256x1024 (![] : Fin 0 → Fin S256x1024.rank)
  reducesTo_S256x1024_S_d0_1 : S256x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S1024x16384 : S_.BroadcastsInDim S1024x16384 (![] : Fin 0 → Fin S1024x16384.rank)
  reducesTo_S1024x16384_S_d0_1 : S1024x16384.ReducesTo [0, 1] S_
  bcast_S_S1x4x64 : S_.BroadcastsInDim S1x4x64 (![] : Fin 0 → Fin S1x4x64.rank)
  reducesTo_S1x4x64_S_d0_1_2 : S1x4x64.ReducesTo [0, 1, 2] S_

variable [Facts]

def fn_part1 {F : FTy → Type} [FloatOps F] (main_arg4 : FVec F S1024x16384 .bf16) (main_arg5 : FVec F S1x4x64 .f32) (main_v15 : IVec S_ 1) (main_v17 : FVec F S1024x256 .f32) : IVec S_ 1 :=
  let main_cst_4 : FVec F S_ .f32 := constant S_ .f32 0x7F800000#32
  let main_v18 : FVec F S1024x256 .f32 := broadcastInDim S1024x256 ![] bcast_S_S1024x256 main_cst_4
  let main_v19 : IVec S1024x256 1 := cmpf .olt main_v17 main_v18
  let main_c_5 : IVec S_ 1 := constantI S_ 1 1#1
  let main_v20 : IVec S_ 1 := (fun x v => Host.reduce IntOp.andi x v reducesTo_S1024x256_S_d0_1 h_S_) main_v19 main_c_5
  let main_v21 : IVec S_ 1 := andi main_v15 main_v20
  let main_v22 : FVec F S1024x16384 .f32 := (extf .f32 · bitsLt_bf16_f32) main_arg4
  let main_v23 : FVec F S1024x16384 .f32 := Host.absf main_v22
  let main_cst_6 : FVec F S_ .f32 := constant S_ .f32 0x7F800000#32
  let main_v24 : FVec F S1024x16384 .f32 := broadcastInDim S1024x16384 ![] bcast_S_S1024x16384 main_cst_6
  let main_v25 : IVec S1024x16384 1 := cmpf .olt main_v23 main_v24
  let main_c_7 : IVec S_ 1 := constantI S_ 1 1#1
  let main_v26 : IVec S_ 1 := (fun x v => Host.reduce IntOp.andi x v reducesTo_S1024x16384_S_d0_1 h_S_) main_v25 main_c_7
  let main_v27 : IVec S_ 1 := andi main_v21 main_v26
  let main_v28 : FVec F S1x4x64 .f32 := Host.absf main_arg5
  let main_cst_8 : FVec F S_ .f32 := constant S_ .f32 0x7F800000#32
  let main_v29 : FVec F S1x4x64 .f32 := broadcastInDim S1x4x64 ![] bcast_S_S1x4x64 main_cst_8
  let main_v30 : IVec S1x4x64 1 := cmpf .olt main_v28 main_v29
  let main_c_9 : IVec S_ 1 := constantI S_ 1 1#1
  let main_v31 : IVec S_ 1 := (fun x v => Host.reduce IntOp.andi x v reducesTo_S1x4x64_S_d0_1_2 h_S_) main_v30 main_c_9
  let main_v32 : IVec S_ 1 := andi main_v27 main_v31
  main_v32

def fn {F : FTy → Type} [FloatOps F] (main_arg0 : FVec F S16384x1024 .f32) (main_arg1 : FVec F S256x1024 .bf16) (main_arg2 : FVec F S16384x1024 .bf16) (main_arg3 : FVec F S1024x256 .bf16) (main_arg4 : FVec F S1024x16384 .bf16) (main_arg5 : FVec F S1x4x64 .f32) (main_arg6 : FVec F S1x128 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S256x1024 .f32 := (extf .f32 · bitsLt_bf16_f32) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_c_1 : IVec S_ 1 := constantI S_ 1 1#1
  let main_v8 : IVec S_ 1 := (fun x v => Host.reduce IntOp.andi x v reducesTo_S256x1024_S_d0_1 h_S_) main_v7 main_c_1
  let main_v9 : IVec S_ 1 := andi main_v3 main_v8
  let main_v10 : FVec F S16384x1024 .f32 := (extf .f32 · bitsLt_bf16_f32) main_arg2
  let main_v11 : FVec F S16384x1024 .f32 := Host.absf main_v10
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_c_3 : IVec S_ 1 := constantI S_ 1 1#1
  let main_v14 : IVec S_ 1 := (fun x v => Host.reduce IntOp.andi x v reducesTo_S16384x1024_S_d0_1 h_S_) main_v13 main_c_3
  let main_v15 : IVec S_ 1 := andi main_v9 main_v14
  let main_v16 : FVec F S1024x256 .f32 := (extf .f32 · bitsLt_bf16_f32) main_arg3
  let main_v17 : FVec F S1024x256 .f32 := Host.absf main_v16
  fn_part1 (F := F) main_arg4 main_arg5 main_v15 main_v17
-- ==== Kernel.lean ====
abbrev S16384x1024 : Shape := ⟨2, ![16384, 1024]⟩
abbrev S256x1024 : Shape := ⟨2, ![256, 1024]⟩
abbrev S1024x256 : Shape := ⟨2, ![1024, 256]⟩
abbrev S1024x16384 : Shape := ⟨2, ![1024, 16384]⟩
abbrev S1x4x64 : Shape := ⟨3, ![1, 4, 64]⟩
abbrev S1x128 : Shape := ⟨2, ![1, 128]⟩
abbrev S_ : Shape := ⟨0, ![]⟩
abbrev S4x64 : Shape := ⟨2, ![4, 64]⟩
abbrev S128 : Shape := ⟨1, ![128]⟩
abbrev S1024x128 : Shape := ⟨2, ![1024, 128]⟩
abbrev S256x128 : Shape := ⟨2, ![256, 128]⟩
abbrev S16384x128 : Shape := ⟨2, ![16384, 128]⟩
abbrev S128x256 : Shape := ⟨2, ![128, 256]⟩
abbrev S128x16384 : Shape := ⟨2, ![128, 16384]⟩
abbrev S1x64 : Shape := ⟨2, ![1, 64]⟩
abbrev S1 : Shape := ⟨1, ![1]⟩
abbrev S1x1 : Shape := ⟨2, ![1, 1]⟩
abbrev S128x512 : Shape := ⟨2, ![128, 512]⟩
abbrev S256x512 : Shape := ⟨2, ![256, 512]⟩
abbrev S512 : Shape := ⟨1, ![512]⟩
abbrev S1x512 : Shape := ⟨2, ![1, 512]⟩
abbrev S32x8x512 : Shape := ⟨3, ![32, 8, 512]⟩
abbrev S8x512 : Shape := ⟨2, ![8, 512]⟩
abbrev S1x128x512 : Shape := ⟨3, ![1, 128, 512]⟩
abbrev S1x1x1 : Shape := ⟨3, ![1, 1, 1]⟩
abbrev S1x8x512 : Shape := ⟨3, ![1, 8, 512]⟩
abbrev S256 : Shape := ⟨1, ![256]⟩
abbrev S1x256 : Shape := ⟨2, ![1, 256]⟩

abbrev nBuf : Space → Nat
  | .hbm => 18
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S256x1024, .bf16⟩
  | .hbm, ⟨2, _⟩ => ⟨S16384x1024, .bf16⟩
  | .hbm, ⟨3, _⟩ => ⟨S1024x256, .bf16⟩
  | .hbm, ⟨4, _⟩ => ⟨S1024x16384, .bf16⟩
  | .hbm, ⟨5, _⟩ => ⟨S1x4x64, .f32⟩
  | .hbm, ⟨6, _⟩ => ⟨S1x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .bf16⟩
  | .hbm, ⟨14, _⟩ => ⟨S4x64, .f32⟩
  | .hbm, ⟨15, _⟩ => ⟨S128, .f32⟩
  | .hbm, ⟨16, _⟩ => ⟨S1x128, .f32⟩
  | .hbm, ⟨17, _⟩ => ⟨S16384x1024, .bf16⟩
  | .local _ .vmem, ⟨0, _⟩ => ⟨S1024x128, .bf16⟩
  | .local _ .vmem, ⟨1, _⟩ => ⟨S1024x128, .bf16⟩
  | .local _ .vmem, ⟨2, _⟩ => ⟨S256x128, .bf16⟩
  | .local _ .vmem, ⟨3, _⟩ => ⟨S256x128, .bf16⟩
  | .local _ .vmem, ⟨4, _⟩ => ⟨S16384x128, .bf16⟩
  | .local _ .vmem, ⟨5, _⟩ => ⟨S16384x128, .bf16⟩
  | .local _ .vmem, ⟨6, _⟩ => ⟨S128x256, .bf16⟩
  | .local _ .vmem, ⟨7, _⟩ => ⟨S128x256, .bf16⟩
  | .local _ .vmem, ⟨8, _⟩ => ⟨S128x16384, .bf16⟩
  | .local _ .vmem, ⟨9, _⟩ => ⟨S128x16384, .bf16⟩
  | .local _ .vmem, ⟨10, _⟩ => ⟨S4x64, .f32⟩
  | .local _ .vmem, ⟨11, _⟩ => ⟨S1x128, .f32⟩
  | .local _ .vmem, ⟨12, _⟩ => ⟨S1024x128, .bf16⟩
  | .local _ .vmem, ⟨13, _⟩ => ⟨S1024x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c4_i32 : BitVec 32 := 4#32
  let v17 : BitVec 32 := Scalar.addi c0_i32 c4_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v18 : BitVec 32 := Scalar.muli arg10 c256_i32
  v18
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v18 : BitVec 32 := Scalar.muli arg10 c256_i32
  let v19 : BitVec 32 := v18
  let v20 : Index := Scalar.indexCast v19
  let c0_4 : Index := 0#32
  ![v20.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v18 : BitVec 32 := Scalar.muli arg10 c256_i32
  let v19 : BitVec 32 := v18
  let v869 : Index := Scalar.indexCast v19
  let c0_419 : Index := 0#32
  ![v869.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x1024 : Shape := ⟨2, ![16384, 1024]⟩
abbrev S256x1024 : Shape := ⟨2, ![256, 1024]⟩
abbrev S1024x256 : Shape := ⟨2, ![1024, 256]⟩
abbrev S1024x16384 : Shape := ⟨2, ![1024, 16384]⟩
abbrev S1x4x64 : Shape := ⟨3, ![1, 4, 64]⟩
abbrev S1x128 : Shape := ⟨2, ![1, 128]⟩
abbrev S16640x1024 : Shape := ⟨2, ![16640, 1024]⟩
abbrev S4x64 : Shape := ⟨2, ![4, 64]⟩
abbrev S1x64 : Shape := ⟨2, ![1, 64]⟩
abbrev S64 : Shape := ⟨1, ![64]⟩
abbrev S_ : Shape := ⟨0, ![]⟩
abbrev S16384x8x2x64 : Shape := ⟨4, ![16384, 8, 2, 64]⟩
abbrev S16640x8x2x64 : Shape := ⟨4, ![16640, 8, 2, 64]⟩
abbrev S16640x8x128 : Shape := ⟨3, ![16640, 8, 128]⟩
abbrev S8x2x16384x16640 : Shape := ⟨4, ![8, 2, 16384, 16640]⟩
abbrev S8x2x16384 : Shape := ⟨3, ![8, 2, 16384]⟩
abbrev S8x2x16384x1 : Shape := ⟨4, ![8, 2, 16384, 1]⟩
abbrev S8x1x16384x16640 : Shape := ⟨4, ![8, 1, 16384, 16640]⟩
abbrev S8x16384x16640 : Shape := ⟨3, ![8, 16384, 16640]⟩
abbrev S8x128x16384 : Shape := ⟨3, ![8, 128, 16384]⟩
abbrev S16384x8x128 : Shape := ⟨3, ![16384, 8, 128]⟩
abbrev S128 : Shape := ⟨1, ![128]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .bf16⟩
  | .hbm, ⟨2, _⟩ => ⟨S16384x1024, .bf16⟩
  | .hbm, ⟨3, _⟩ => ⟨S1024x256, .bf16⟩
  | .hbm, ⟨4, _⟩ => ⟨S1024x16384, .bf16⟩
  | .hbm, ⟨5, _⟩ => ⟨S1x4x64, .f32⟩
  | .hbm, ⟨6, _⟩ => ⟨S1x128, .f32⟩
  | .hbm, ⟨7, _⟩ => ⟨S256x1024, .f32⟩
  | .hbm, ⟨8, _⟩ => ⟨S16384x1024, .f32⟩
  | .hbm, ⟨9, _⟩ => ⟨S16640x1024, .f32⟩
  | .hbm, ⟨10, _⟩ => ⟨S1024x256, .f32⟩
  | .hbm, ⟨11, _⟩ => ⟨S256x1024, .f32⟩
  | .hbm, ⟨12, _⟩ => ⟨S1024x16384, .f32⟩
  | .hbm, ⟨13, _⟩ => ⟨S16384x1024, .f32⟩
  | .hbm, ⟨14, _⟩ => ⟨S16640x1024, .f32⟩
  | .hbm, ⟨15, _⟩ => ⟨S4x64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S16384x8x2x64, .f32⟩
  | .hbm, ⟨36, _⟩ => ⟨S16640x8x2x64, .f32⟩
  | .hbm, ⟨37, _⟩ => ⟨S16640x8x128, .f32⟩
  | .hbm, ⟨38, _⟩ => ⟨S8x2x16384x16640, .f32⟩
  | .hbm, ⟨39, _⟩ => ⟨S_, .f32⟩
  | .hbm, ⟨40, _⟩ => ⟨S8x2x16384x16640, .f32⟩
  | .hbm, ⟨41, _⟩ => ⟨S8x2x16384x16640, .f32⟩
  | .hbm, ⟨42, _⟩ => ⟨S_, .f32⟩
  | .hbm, ⟨43, _⟩ => ⟨S8x2x16384, .f32⟩
  | .hbm, ⟨44, _⟩ => ⟨S_, .f32⟩
  | .hbm, ⟨45, _⟩ => ⟨S8x2x16384, .f32⟩
  | .hbm, ⟨46, _⟩ => ⟨S8x2x16384, .f32⟩
  | .hbm, ⟨47, _⟩ => ⟨S8x2x16384x1, .f32⟩
  | .hbm, ⟨48, _⟩ => ⟨S8x2x16384x16640, .f32⟩
  | .hbm, ⟨49, _⟩ => ⟨S8x2x16384x16640, .f32⟩
  | .hbm, ⟨50, _⟩ => ⟨S8x2x16384x16640, .f32⟩
  | .hbm, ⟨51, _⟩ => ⟨S_, .f32⟩
  | .hbm, ⟨52, _⟩ => ⟨S8x2x16384, .f32⟩
  | .hbm, ⟨53, _⟩ => ⟨S8x2x16384x1, .f32⟩
  | .hbm, ⟨54, _⟩ => ⟨S8x2x16384x16640, .f32⟩
  | .hbm, ⟨55, _⟩ => ⟨S8x2x16384x16640, .f32⟩
  | .hbm, ⟨56, _⟩ => ⟨S8x1x16384x16640, .f32⟩
  | .hbm, ⟨57, _⟩ => ⟨S8x16384x16640, .f32⟩
  | .hbm, ⟨58, _⟩ => ⟨S8x1x16384x16640, .f32⟩
  | .hbm, ⟨59, _⟩ => ⟨S8x16384x16640, .f32⟩
  | .hbm, ⟨60, _⟩ => ⟨S8x16384x16640, .f32⟩
  | .hbm, ⟨61, _⟩ => ⟨S8x16384x16640, .f32⟩
  | .hbm, ⟨62, _⟩ => ⟨S8x16384x16640, .f32⟩
  | .hbm, ⟨63, _⟩ => ⟨S8x128x16384, .f32⟩
  | .hbm, ⟨64, _⟩ => ⟨S16384x8x128, .f32⟩
  | .hbm, ⟨65, _⟩ => ⟨S128, .f32⟩
  | .hbm, ⟨66, _⟩ => ⟨S16384x8x128, .f32⟩
  | .hbm, ⟨67, _⟩ => ⟨S_, .f32⟩
  | .hbm, ⟨68, _⟩ => ⟨S16384x8, .f32⟩
  | .hbm, ⟨69, _⟩ => ⟨S16384x8x1, .f32⟩
  | .hbm, ⟨70, _⟩ => ⟨S_, .f32⟩
  | .hbm, ⟨71, _⟩ => ⟨S16384x8x1, .f32⟩
  | .hbm, ⟨72, _⟩ => ⟨S16384x8x1, .f32⟩
  | .hbm, ⟨73, _⟩ => ⟨S_, .f32⟩
  | .hbm, ⟨74, _⟩ => ⟨S16384x8x1, .f32⟩
  | .hbm, ⟨75, _⟩ => ⟨S16384x8x1, .f32⟩
  | .hbm, ⟨76, _⟩ => ⟨S16384x8x1, .f32⟩
  | .hbm, ⟨77, _⟩ => ⟨S16384x8x128, .f32⟩
  | .hbm, ⟨78, _⟩ => ⟨S16384x8x128, .f32⟩
  | .hbm, ⟨79, _⟩ => ⟨S1x1x128, .f32⟩
  | .hbm, ⟨80, _⟩ => ⟨S16384x8x128, .f32⟩
  | .hbm, ⟨81, _⟩ => ⟨S16384x8x128, .f32⟩
  | .hbm, ⟨82, _⟩ => ⟨S_, .f32⟩
  | .hbm, ⟨83, _⟩ => ⟨S16384x8x128, .f32⟩
  | .hbm, ⟨84, _⟩ => ⟨S16384x8x128, .f32⟩
  | .hbm, ⟨85, _⟩ => ⟨S16384x1024, .f32⟩
  | .hbm, ⟨86, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S16384x2048 : Shape := ⟨2, ![16384, 2048]⟩
abbrev S1x2048x5504 : Shape := ⟨3, ![1, 2048, 5504]⟩
abbrev S1x3x5504 : Shape := ⟨3, ![1, 3, 5504]⟩
abbrev S1x5504 : Shape := ⟨2, ![1, 5504]⟩
abbrev S1x5504x2048 : Shape := ⟨3, ![1, 5504, 2048]⟩
abbrev S1x2048 : Shape := ⟨2, ![1, 2048]⟩
abbrev S2048 : Shape := ⟨1, ![2048]⟩
abbrev S2048x5504 : Shape := ⟨2, ![2048, 5504]⟩
abbrev S_ : Shape := ⟨0, ![]⟩
abbrev S2048x5632 : Shape := ⟨2, ![2048, 5632]⟩
abbrev S5504x2048 : Shape := ⟨2, ![5504, 2048]⟩
abbrev S5632x2048 : Shape := ⟨2, ![5632, 2048]⟩
abbrev S3x5504 : Shape := ⟨2, ![3, 5504]⟩
abbrev S3x5632 : Shape := ⟨2, ![3, 5632]⟩
abbrev S5504 : Shape := ⟨1, ![5504]⟩
abbrev S5632 : Shape := ⟨1, ![5632]⟩
abbrev S1x5632 : Shape := ⟨2, ![1, 5632]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S544x2048 : Shape := ⟨2, ![544, 2048]⟩
abbrev S512x512 : Shape := ⟨2, ![512, 512]⟩
abbrev S544x512 : Shape := ⟨2, ![544, 512]⟩
abbrev S512 : Shape := ⟨1, ![512]⟩
abbrev S512x1 : Shape := ⟨2, ![512, 1]⟩

abbrev nBuf : Space → Nat
  | .hbm => 35
  | .vmem => 24
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S1x2048x5504, .f32⟩
  | .hbm, ⟨3, _⟩ => ⟨S1x2048x5504, .f32⟩
  | .hbm, ⟨4, _⟩ => ⟨S1x3x5504, .f32⟩
  | .hbm, ⟨5, _⟩ => ⟨S1x5504, .f32⟩
  | .hbm, ⟨6, _⟩ => ⟨S1x5504x2048, .f32⟩
  | .hbm, ⟨7, _⟩ => ⟨S1x2048, .f32⟩
  | .hbm, ⟨8, _⟩ => ⟨S2048, .f32⟩
  | .hbm, ⟨9, _⟩ => ⟨S2048x5504, .f32⟩
  | .hbm, ⟨10, _⟩ => ⟨S_, .i32⟩
  | .hbm, ⟨11, _⟩ => ⟨S_, .f32⟩
  | .hbm, ⟨12, _⟩ => ⟨S2048x5632, .f32⟩
  | .hbm, ⟨13, _⟩ => ⟨S2048x5632, .bf16⟩
  | .hbm, ⟨14, _⟩ => ⟨S2048x5504, .f32⟩
  | .hbm, ⟨15, _⟩ => ⟨S_, .i32⟩
  | .hbm, ⟨16, _⟩ => ⟨S_, .f32⟩
  | .hbm, ⟨17, _⟩ => ⟨S2048x5632, .f32⟩
  | .hbm, ⟨18, _⟩ => ⟨S2048x5632, .bf16⟩
  | .hbm, ⟨19, _⟩ => ⟨S5504x2048, .f32⟩
  | .hbm, ⟨20, _⟩ => ⟨S_, .i32⟩
  | .hbm, ⟨21, _⟩ => ⟨S_, .f32⟩
  | .hbm, ⟨22, _⟩ => ⟨S5632x2048, .f32⟩
  | .hbm, ⟨23, _⟩ => ⟨S5632x2048, .bf16⟩
  | .hbm, ⟨24, _⟩ => ⟨S3x5504, .f32⟩
  | .hbm, ⟨25, _⟩ => ⟨S_, .i32⟩
  | .hbm, ⟨26, _⟩ => ⟨S_, .f32⟩
  | .hbm, ⟨27, _⟩ => ⟨S3x5632, .f32⟩
  | .hbm, ⟨28, _⟩ => ⟨S5504, .f32⟩
  | .hbm, ⟨29, _⟩ => ⟨S_, .i32⟩
  | .hbm, ⟨30, _⟩ => ⟨S_, .f32⟩
  | .hbm, ⟨31, _⟩ => ⟨S5632, .f32⟩
  | .hbm, ⟨32, _⟩ => ⟨S1x5632, .f32⟩
  | .hbm, ⟨33, _⟩ => ⟨S1x2048, .f32⟩
  | .hbm, ⟨34, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S512x2048, .f32⟩
  | .local _ .vmem, ⟨7, _⟩ => ⟨S512x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | .local _ .vmem, ⟨18, _⟩ => ⟨S1x2048, .f32⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S544x2048, .bf16⟩
  | .local _ .vmem, ⟨23, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_call3_v0 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_call4_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v52 : BitVec 1 := Scalar.cmpi .eq arg1 c10_i32
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Kernel2Ideal.lean ====
variable {F : FTy → Type} [FloatOps F] [Named F]
def κ : String → Option EReal := fun
  | "k0" => some (((-6693141 / 4194304) * (Real.log 2)⁻¹ : ℝ) : EReal)
  | "k0c" => some ((((-6693141 / 4194304) * (Real.log 2)⁻¹) * (12003091 / 268435456) : ℝ) : EReal)
  | _ => none
-- ==== Reference2Ideal.lean ====
abbrev S16384x2048 : Shape := ⟨2, ![16384, 2048]⟩
abbrev S1x2048x5504 : Shape := ⟨3, ![1, 2048, 5504]⟩
abbrev S1x3x5504 : Shape := ⟨3, ![1, 3, 5504]⟩
abbrev S1x5504 : Shape := ⟨2, ![1, 5504]⟩
abbrev S1x5504x2048 : Shape := ⟨3, ![1, 5504, 2048]⟩
abbrev S1x2048 : Shape := ⟨2, ![1, 2048]⟩
abbrev S2048 : Shape := ⟨1, ![2048]⟩
abbrev S2048x5504 : Shape := ⟨2, ![2048, 5504]⟩
abbrev S3x5504 : Shape := ⟨2, ![3, 5504]⟩
abbrev S5504 : Shape := ⟨1, ![5504]⟩
abbrev S5504x2048 : Shape := ⟨2, ![5504, 2048]⟩
abbrev S16384x5504 : Shape := ⟨2, ![16384, 5504]⟩
abbrev S_ : Shape := ⟨0, ![]⟩
abbrev S16386x5504 : Shape := ⟨2, ![16386, 5504]⟩
abbrev S16384 : Shape := ⟨1, ![16384]⟩
abbrev S16384x1 : Shape := ⟨2, ![16384, 1]⟩

abbrev nBuf : Space → Nat
  | .hbm => 81
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S1x2048x5504, .f32⟩
  | .hbm, ⟨3, _⟩ => ⟨S1x2048x5504, .f32⟩
  | .hbm, ⟨4, _⟩ => ⟨S1x3x5504, .f32⟩
  | .hbm, ⟨5, _⟩ => ⟨S1x5504, .f32⟩
  | .hbm, ⟨6, _⟩ => ⟨S1x5504x2048, .f32⟩
  | .hbm, ⟨7, _⟩ => ⟨S1x2048, .f32⟩
  | .hbm, ⟨8, _⟩ => ⟨S2048, .f32⟩
  | .hbm, ⟨9, _⟩ => ⟨S16384x2048, .f32⟩
  | .hbm, ⟨10, _⟩ => ⟨S2048x5504, .f32⟩
  | .hbm, ⟨11, _⟩ => ⟨S2048x5504, .f32⟩
  | .hbm, ⟨12, _⟩ => ⟨S3x5504, .f32⟩
  | .hbm, ⟨13, _⟩ => ⟨S5504, .f32⟩
  | .hbm, ⟨14, _⟩ => ⟨S5504x2048, .f32⟩
  | .hbm, ⟨15, _⟩ => ⟨S16384x5504, .f32⟩
  | .hbm, ⟨16, _⟩ => ⟨S16384x5504, .f32⟩
  | .hbm, ⟨17, _⟩ => ⟨S_, .i32⟩
  | .hbm, ⟨18, _⟩ => ⟨S_, .f32⟩
  | .hbm, ⟨19, _⟩ => ⟨S16386x5504, .f32⟩
  | .hbm, ⟨20, _⟩ => ⟨S16384x5504, .f32⟩
  | .hbm, ⟨21, _⟩ => ⟨S1x5504, .f32⟩
  | .hbm, ⟨22, _⟩ => ⟨S5504, .f32⟩
  | .hbm, ⟨23, _⟩ => ⟨S1x5504, .f32⟩
  | .hbm, ⟨24, _⟩ => ⟨S16384x5504, .f32⟩
  | .hbm, ⟨25, _⟩ => ⟨S16384x5504, .f32⟩
  | .hbm, ⟨26, _⟩ => ⟨S1x5504, .f32⟩
  | .hbm, ⟨27, _⟩ => ⟨S16384x5504, .f32⟩
  | .hbm, ⟨28, _⟩ => ⟨S16384x5504, .f32⟩
  | .hbm, ⟨29, _⟩ => ⟨S16384x5504, .f32⟩
  | .hbm, ⟨30, _⟩ => ⟨S1x5504, .f32⟩
  | .hbm, ⟨31, _⟩ => ⟨S5504, .f32⟩
  | .hbm, ⟨32, _⟩ => ⟨S1x5504, .f32⟩
  | .hbm, ⟨33, _⟩ => ⟨S16384x5504, .f32⟩
  | .hbm, ⟨34, _⟩ => ⟨S16384x5504, .f32⟩
  | .hbm, ⟨35, _⟩ => ⟨S16384x5504, .f32⟩
  | .hbm, ⟨36, _⟩ => ⟨S16384x5504, .f32⟩
  | .hbm, ⟨37, _⟩ => ⟨S1x5504, .f32⟩
  | .hbm, ⟨38, _⟩ => ⟨S5504, .f32⟩
  | .hbm, ⟨39, _⟩ => ⟨S1x5504, .f32⟩
  | .hbm, ⟨40, _⟩ => ⟨S16384x5504, .f32⟩
  | .hbm, ⟨41, _⟩ => ⟨S16384x5504, .f32⟩
  | .hbm, ⟨42, _⟩ => ⟨S16384x5504, .f32⟩
  | .hbm, ⟨43, _⟩ => ⟨S16384x5504, .f32⟩
  | .hbm, ⟨44, _⟩ => ⟨S16384x5504, .f32⟩
  | .hbm, ⟨45, _⟩ => ⟨S_, .f32⟩
  | .hbm, ⟨46, _⟩ => ⟨S16384x5504, .f32⟩
  | .hbm, ⟨47, _⟩ => ⟨S16384x5504, .f32⟩
  | .hbm, ⟨48, _⟩ => ⟨S16384x5504, .f32⟩
  | .hbm, ⟨49, _⟩ => ⟨S_, .f32⟩
  | .hbm, ⟨50, _⟩ => ⟨S16384x5504, .f32⟩
  | .hbm, ⟨51, _⟩ => ⟨S16384x5504, .f32⟩
  | .hbm, ⟨52, _⟩ => ⟨S16384x5504, .f32⟩
  | .hbm, ⟨53, _⟩ => ⟨S_, .f32⟩
  | .hbm, ⟨54, _⟩ => ⟨S16384x5504, .f32⟩
  | .hbm, ⟨55, _⟩ => ⟨S16384x5504, .f32⟩
  | .hbm, ⟨56, _⟩ => ⟨S_, .f32⟩
  | .hbm, ⟨57, _⟩ => ⟨S16384x5504, .f32⟩
  | .hbm, ⟨58, _⟩ => ⟨S16384x5504, .f32⟩
  | .hbm, ⟨59, _⟩ => ⟨S16384x5504, .f32⟩
  | .hbm, ⟨60, _⟩ => ⟨S16384x5504, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S16384x2048, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x2048, .f32⟩
  | .hbm, ⟨77, _⟩ => ⟨S16384x2048, .f32⟩
  | .hbm, ⟨78, _⟩ => ⟨S1x2048, .f32⟩
  | .hbm, ⟨79, _⟩ => ⟨S16384x2048, .f32⟩
  | .hbm, ⟨80, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_cst_4 : Ref sig .tc := ⟨.hbm, 69, rfl⟩
abbrev main_v53 : Ref sig .tc := ⟨.hbm, 70, rfl⟩
abbrev main_v54 : Ref sig .tc := ⟨.hbm, 71, rfl⟩
abbrev main_cst_5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel3.lean ====
abbrev S16384x1024 : Shape := ⟨2, ![16384, 1024]⟩
abbrev S16384x2048 : Shape := ⟨2, ![16384, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 16
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x2048, .f32⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .bf16⟩
  | .hbm, ⟨12, _⟩ => ⟨S2048, .f32⟩
  | .hbm, ⟨13, _⟩ => ⟨S1x2048, .f32⟩
  | .hbm, ⟨14, _⟩ => ⟨S16384x2048, .f32⟩
  | .hbm, ⟨15, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "k0" => some (((-6693141 / 4194304) * (Real.log 2)⁻¹ : ℝ) : EReal)
  | "k0c" => some ((((-6693141 / 4194304) * (Real.log 2)⁻¹) * (12003091 / 268435456) : ℝ) : EReal)
  | _ => none
-- ==== Reference3Ideal.lean ====
abbrev S16384x1024 : Shape := ⟨2, ![16384, 1024]⟩
abbrev S16384x2048 : Shape := ⟨2, ![16384, 2048]⟩
abbrev S1x2048x2048 : Shape := ⟨3, ![1, 2048, 2048]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S16384 : Shape := ⟨1, ![16384]⟩
abbrev S16384x1 : Shape := ⟨2, ![16384, 1]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x2048, .f32⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x2048, .f32⟩
  | .hbm, ⟨31, _⟩ => ⟨S2048x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S2048, .f32⟩
  | .hbm, ⟨37, _⟩ => ⟨S16384x2048, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x2048, .f32⟩
  | .hbm, ⟨49, _⟩ => ⟨S16384x2048, .f32⟩
  | .hbm, ⟨50, _⟩ => ⟨S1x2048, .f32⟩
  | .hbm, ⟨51, _⟩ => ⟨S16384x2048, .f32⟩
  | .hbm, ⟨52, _⟩ => ⟨S16384x2048, .f32⟩
  | .hbm, ⟨53, _⟩ => ⟨S_, .f32⟩
  | .hbm, ⟨54, _⟩ => ⟨S1x2048, .f32⟩
  | .hbm, ⟨55, _⟩ => ⟨S1x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel4.lean ====
abbrev S1x2048 : Shape := ⟨2, ![1, 2048]⟩
abbrev S2048 : Shape := ⟨1, ![2048]⟩
abbrev S1x2048x12288 : Shape := ⟨3, ![1, 2048, 12288]⟩
abbrev S1x12288 : Shape := ⟨2, ![1, 12288]⟩
abbrev S_ : Shape := ⟨0, ![]⟩
abbrev S8x2048 : Shape := ⟨2, ![8, 2048]⟩
abbrev S1 : Shape := ⟨1, ![1]⟩
abbrev S2048x12288 : Shape := ⟨2, ![2048, 12288]⟩
abbrev S12288 : Shape := ⟨1, ![12288]⟩
abbrev S8x12288 : Shape := ⟨2, ![8, 12288]⟩
abbrev S2048x2048 : Shape := ⟨2, ![2048, 2048]⟩

abbrev nBuf : Space → Nat
  | .hbm => 17
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S1x2048x12288, .f32⟩
  | .hbm, ⟨3, _⟩ => ⟨S1x12288, .f32⟩
  | .hbm, ⟨4, _⟩ => ⟨S_, .f32⟩
  | .hbm, ⟨5, _⟩ => ⟨S8x2048, .f32⟩
  | .hbm, ⟨6, _⟩ => ⟨S2048, .f32⟩
  | .hbm, ⟨7, _⟩ => ⟨S_, .i32⟩
  | .hbm, ⟨8, _⟩ => ⟨S1, .i32⟩
  | .hbm, ⟨9, _⟩ => ⟨S8x2048, .f32⟩
  | .hbm, ⟨10, _⟩ => ⟨S_, .i32⟩
  | .hbm, ⟨11, _⟩ => ⟨S1, .i32⟩
  | .hbm, ⟨12, _⟩ => ⟨S8x2048, .f32⟩
  | .hbm, ⟨13, _⟩ => ⟨S2048x12288, .f32⟩
  | .hbm, ⟨14, _⟩ => ⟨S12288, .f32⟩
  | .hbm, ⟨15, _⟩ => ⟨S1x12288, .f32⟩
  | .hbm, ⟨16, _⟩ => ⟨S8x12288, .f32⟩
  | .local _ .vmem, ⟨0, _⟩ => ⟨S8x2048, .f32⟩
  | .local _ .vmem, ⟨1, _⟩ => ⟨S2048x2048, .f32⟩
  | .local _ .vmem, ⟨2, _⟩ => ⟨S2048x2048, .f32⟩
  | .local _ .vmem, ⟨3, _⟩ => ⟨S1x2048, .f32⟩
  | .local _ .vmem, ⟨4, _⟩ => ⟨S1x2048, .f32⟩
  | .local _ .vmem, ⟨5, _⟩ => ⟨S8x2048, .f32⟩
  | .local _ .vmem, ⟨6, _⟩ => ⟨S8x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S1x2048 : Shape := ⟨2, ![1, 2048]⟩
abbrev S2048 : Shape := ⟨1, ![2048]⟩
abbrev S1x2048x12288 : Shape := ⟨3, ![1, 2048, 12288]⟩
abbrev S1x12288 : Shape := ⟨2, ![1, 12288]⟩
abbrev S_ : Shape := ⟨0, ![]⟩
abbrev S6x2048 : Shape := ⟨2, ![6, 2048]⟩
abbrev S8x2048 : Shape := ⟨2, ![8, 2048]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 23
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S1x2048x12288, .f32⟩
  | .hbm, ⟨3, _⟩ => ⟨S1x12288, .f32⟩
  | .hbm, ⟨4, _⟩ => ⟨S1x2048, .f32⟩
  | .hbm, ⟨5, _⟩ => ⟨S_, .f32⟩
  | .hbm, ⟨6, _⟩ => ⟨S6x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S2048x12288, .f32⟩
  | .hbm, ⟨18, _⟩ => ⟨S8x12288, .f32⟩
  | .hbm, ⟨19, _⟩ => ⟨S12288, .f32⟩
  | .hbm, ⟨20, _⟩ => ⟨S1x12288, .f32⟩
  | .hbm, ⟨21, _⟩ => ⟨S8x12288, .f32⟩
  | .hbm, ⟨22, _⟩ => ⟨S8x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Proof.Reads.lean ====
/-
  Programs that only read.

  `Reads R p a` says of a program `p`: holding the resource `R` it runs to its return, gives `R` back, and returns the
  value `a`. The rules below are the ones a straight-line program of loads and conditionals is taken apart by.
-/
module

public import Idealize.ShloMosaic.Lib.Tactic
public import Idealize.ShloMosaic.Lib.Pipeline.Kit
public import Idealize.ShloMosaic.Lib.Pipeline.FrameBody

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable (defs : Defs nD τ sig Val Λ) (𝒱 : Variants) (c : Thread nD τ) (bd : Option 𝒱.V) (E : Set Name)

/-- Holding `R`, the program `p` returns `a` and gives `R` back. -/
def Reads (R : sProp 𝕄) {α : Type} (p : Prog (TpuEff nD τ sig Val Λ c.2) α) (a : α) : Prop :=
  ∀ Q : α → sProp 𝕄, iprop(R ∗ (R -∗ Q a)) ⊢ wp frame (wpE defs 𝒱 c bd) E p Q

variable {defs 𝒱 c bd E} {α β : Type}

/-- A returned value is read as it is. -/
theorem Reads.pure {R : sProp 𝕄} (a : α) : Reads (Ix := Ix) (Name := Name) (U := U) (Lvl := Lvl) defs 𝒱 c bd E R (Pure.pure a) a := by
  intro Q
  rw [wp_pure]
  iintro ⟨HR, HQ⟩
  imodintro
  iapply HQ; iexact HR

/-- Two readers in sequence read: the second starts from what the first returned. -/
theorem Reads.bind {R : sProp 𝕄} {p : Prog (TpuEff nD τ sig Val Λ c.2) α} {f : α → Prog (TpuEff nD τ sig Val Λ c.2) β} {a : α} {b : β}
    (h₁ : Reads (Ix := Ix) (Name := Name) (U := U) (Lvl := Lvl) defs 𝒱 c bd E R p a) (h₂ : Reads (Ix := Ix) (Name := Name) (U := U) (Lvl := Lvl) defs 𝒱 c bd E R (f a) b) : Reads (Ix := Ix) (Name := Name) (U := U) (Lvl := Lvl) defs 𝒱 c bd E R (p >>= f) b := by
  intro Q
  rw [wp_bind]
  iintro ⟨HR, HQ⟩
  iapply (h₁ _)
  isplitl [HR]; · iexact HR
  iintro HR
  iapply (h₂ _)
  isplitl [HR] <;> iassumption

/-- A choice between two readers reads, each under its own hypothesis. -/
theorem Reads.ite {R : sProp 𝕄} {P : Prop} [Decidable P] {p q : Prog (TpuEff nD τ sig Val Λ c.2) α} {a : α}
    (h₁ : P → Reads (Ix := Ix) (Name := Name) (U := U) (Lvl := Lvl) defs 𝒱 c bd E R p a) (h₂ : ¬P → Reads (Ix := Ix) (Name := Name) (U := U) (Lvl := Lvl) defs 𝒱 c bd E R q a) :
    Reads (Ix := Ix) (Name := Name) (U := U) (Lvl := Lvl) defs 𝒱 c bd E R (if P then p else q) a := by
  by_cases h : P
  · simp only [if_pos h]; exact h₁ h
  · simp only [if_neg h]; exact h₂ h

/-- A reader at the head of a program is run with anything else held. -/
theorem Reads.head {R : sProp 𝕄} {p : Prog (TpuEff nD τ sig Val Λ c.2) α} {f : α → Prog (TpuEff nD τ sig Val Λ c.2) β} {a : α}
    {X : sProp 𝕄} {Q : β → sProp 𝕄} (h₁ : Reads (Ix := Ix) (Name := Name) (U := U) (Lvl := Lvl) defs 𝒱 c bd E R p a)
    (h₂ : iprop(R ∗ X) ⊢ wp frame (wpE defs 𝒱 c bd) E (f a) Q) :
    iprop(R ∗ X) ⊢ wp frame (wpE defs 𝒱 c bd) E (p >>= f) Q := by
  rw [wp_bind]
  iintro ⟨HR, HX⟩
  iapply (h₁ _)
  isplitl [HR]; · iexact HR
  iintro HR
  iapply h₂
  isplitl [HR] <;> iassumption

/-- A load of a memref held inside `R` reads its contents at the rectangle's indices. -/
theorem Reads.load {R : sProp 𝕄} {sp : CoreSpace} {s : Shape} {e : EltTy} {m : Memref sig c.2.kind sp s e} {r : Rect s} {hl : m.view.LoadsAt r.toLoadRect}
    {x : s.Idx → Val e} {q : PosShare TreeShare} (hR : R ⊢ iprop(owns (Ix := Ix) (Name := Name) (U := U) (Lvl := Lvl) c m q x ∗ (owns (Ix := Ix) (Name := Name) (U := U) (Lvl := Lvl) c m q x -∗ R))) :
    Reads (Ix := Ix) (Name := Name) (U := U) (Lvl := Lvl) defs 𝒱 c bd E R (Prog.lift (.load m r.toLoadRect hl)) (View.ld x r) := by
  intro Q
  refine (sep_mono hR .rfl).trans ?_
  unfold owns
  iintro ⟨⟨⟨%f, %hf, H⟩, HR⟩, HQ⟩
  subst hf
  simp only [Prog.lift]
  iapply (wp_load (defs := defs) 𝒱 c bd E (m := m) (r := r.toLoadRect) (hl := hl) (m.view.setOn_subset_set _)) $$ H
  iintro H
  iapply (le_wp_ret)
  rw [View.readAt_eq_ld]
  iapply HQ
  iapply HR
  iexists f
  isplitr; · ipureintro; rfl
  iexact H

/-- A store through a rectangle of a buffer held at `d`: it comes back at the payload on the rectangle and at `d` off it. -/
theorem owns_store {sp : CoreSpace} {s : Shape} {e : EltTy} {m : Memref sig c.2.kind sp s e} {r : Rect s} {w : r.shape.Idx → Val e}
    {hx : (m.access r).Stores Finset.univ} {hm : Finset.univ = Finset.univ ∨ ∀ a, r.stride a = 1} {d : s.Idx → Val e} {X : sProp 𝕄} {Q : PUnit → sProp 𝕄}
    (h : ∀ d' : s.Idx → Val e, (∀ j, d' (r.emb j) = w j) → (∀ y, (∀ j, r.emb j ≠ y) → d' y = d y) →
      iprop(owns (Ix := Ix) (Name := Name) (U := U) (Lvl := Lvl) c m fullShare d' ∗ X) ⊢ Q ⟨⟩) :
    iprop(owns (Ix := Ix) (Name := Name) (U := U) (Lvl := Lvl) c m fullShare d ∗ X)
      ⊢ wp frame (wpE defs 𝒱 c bd) E (Prog.lift (.store m r w Finset.univ hx hm)) Q := by
  unfold owns
  iintro ⟨⟨%f, %hf, H⟩, HX⟩
  subst hf
  simp only [Prog.lift]
  iapply (wp_store (defs := defs) 𝒱 c bd E (m := m) (r := r) (hx := hx) (hm := hm) (View.setOn_slice_subset_set _ _ _)) $$ H
  iintro H
  iapply (le_wp_ret)
  have h' := h (m.view.read Val ((m.view.slice r).write Val f w Finset.univ)) (fun j => View.read_slice_write_emb r f w (Finset.mem_univ j))
    (fun y hy => View.read_slice_write_of_not_mem r f w Finset.univ (fun hc => by
      obtain ⟨j, -, hj⟩ := Finset.mem_map.mp hc
      exact hy j hj))
  iapply h'
  unfold owns
  isplitl [H]
  · iexists _
    isplitr; · ipureintro; rfl
    iexact H
  · iexact HX

attribute [irreducible] Reads

end Cert.Proof

end
-- ==== Proof.KernelIdealVals.lean ====
/-
  The values of one trip of the attention call's loop, chunk by chunk.

  A tile is one trip's operands: the context chunk of keys and values, the block's keys and values, and the masked query
  columns. Chunk 0 is the context chunk, chunk `c + 1` the block's rows `256 c …`. `accF`, `lF` are the sums under the
  fixed shift (the first chunk's column maximum), `mR`, `accR`, `lR` the sums under the running maximum.
-/
module

public import proofs.«01_k».proof.Proof.Reads
public import proofs.«01_k».proof.Proof.Gen.KernelIdeal.Frame
public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic

variable {F : FTy → Type} [FloatOps F]

/-- One trip's operands. -/
structure Tile (F : FTy → Type) [FloatOps F] where
  /-- The context keys. -/
  kc : Vec F S256x128 .bf16
  /-- The block's keys. -/
  k : Vec F S16384x128 .bf16
  /-- The context values, transposed. -/
  vtc : Vec F S128x256 .bf16
  /-- The block's values, transposed. -/
  vt : Vec F S128x16384 .bf16
  /-- The masked query columns of the two components. -/
  qq : FVec F S128x512 .bf16

/-- The masked query columns of a block of query rows: both halves of the head dimension, each beside zeros. -/
def maskedQ (x : Vec F S256x128 .bf16) : FVec F S128x512 .bf16 :=
  truncf .bf16 (concatenate S128x512 1
    [⟨S128x256, select (cmpi .slt (iota .tc S128x256 32 [0] iota_S128x256_d0_w32) (broadcast S128x256 64#32))
        (transpose S128x256 [1, 0] (extf .f32 (shapeCast S256x128 x shapeCasts_S256x128_S256x128) bitsLt_bf16_f32) transposes_S256x128_p1_0_S128x256)
        (broadcast S128x256 (Scalar.ofBits .f32 0x00000000#32))⟩,
      ⟨S128x256, select (cmpi .sge (iota .tc S128x256 32 [0] iota_S128x256_d0_w32) (broadcast S128x256 64#32))
        (transpose S128x256 [1, 0] (extf .f32 (shapeCast S256x128 x shapeCasts_S256x128_S256x128) bitsLt_bf16_f32) transposes_S256x128_p1_0_S128x256)
        (broadcast S128x256 (Scalar.ofBits .f32 0x00000000#32))⟩] concatenates_S128x256_S128x256_S128x512_d1) bitsLt_bf16_f32

namespace Tile

variable (B : Tile F)

/-- Chunk `c` of the keys. -/
def kch (c : ℕ) : Vec F S256x128 .bf16 :=
  match c with
  | 0 => B.kc
  | c + 1 => if h : ∀ a, (![256 * c, 0] : Fin 2 → ℕ) a + S256x128.size a ≤ S16384x128.size a then
      View.ld B.k (Rect.unit (s := S16384x128) ![256 * c, 0] S256x128.size h) else B.kc

/-- Chunk `c` of the values. -/
def vch (c : ℕ) : Vec F S128x256 .bf16 :=
  match c with
  | 0 => B.vtc
  | c + 1 => if h : ∀ a, (![0, 256 * c] : Fin 2 → ℕ) a + S128x256.size a ≤ S128x16384.size a then
      View.ld B.vt (Rect.unit (s := S128x16384) ![0, 256 * c] S128x256.size h) else B.vtc

/-- The scores of chunk `c`: keys by query columns. -/
def sc (c : ℕ) : FVec F S256x512 .f32 :=
  matmul dot_S256x128_S128x512_S256x512_1_0_0_1_n_n none (B.kch c) B.qq (constant S256x512 .f32 0x00000000#32)

/-- The column maxima of chunk `c`'s scores. -/
def cmax (c : ℕ) : FVec F S1x512 .f32 :=
  shapeCast S1x512 (multiReduction .maximumf [0] S512 (B.sc c) 0xFF800000#32 reduces_S256x512_S512 (.inl rfl) rfl) shapeCasts_S512_S1x512

/-- The exponentials of chunk `c`'s scores less a shift per column. -/
def ex (c : ℕ) (m : FVec F S1x512 .f32) : FVec F S256x512 .f32 :=
  exp2 (subf (B.sc c) (broadcastTo S256x512 m broadcasts_S1x512_S256x512))

/-- The values of chunk `c` weighted by exponentials. -/
def pv (c : ℕ) (m : FVec F S1x512 .f32) : FVec F S128x512 .f32 :=
  matmul dot_S128x256_S256x512_S128x512_1_0_0_1_n_n none (B.vch c) (truncf .bf16 (B.ex c m) bitsLt_bf16_f32) (constant S128x512 .f32 0x00000000#32)

/-- The exponentials of chunk `c` summed eight rows apart. -/
def ps (c : ℕ) (m : FVec F S1x512 .f32) : FVec F S8x512 .f32 :=
  multiReduction .add [0] S8x512 (shapeCast S32x8x512 (B.ex c m) shapeCasts_S256x512_S32x8x512) 0x00000000#32 reduces_S32x8x512_S8x512 (.inl rfl) rfl

/-- Weighted values up to chunk `c`, under the first chunk's maxima as the shift. -/
def accF : ℕ → FVec F S128x512 .f32
  | 0 => B.pv 0 (B.cmax 0)
  | c + 1 => addf (accF c) (B.pv (c + 1) (B.cmax 0))

/-- Weights up to chunk `c`, under the first chunk's maxima as the shift. -/
def lF : ℕ → FVec F S8x512 .f32
  | 0 => B.ps 0 (B.cmax 0)
  | c + 1 => addf (lF c) (B.ps (c + 1) (B.cmax 0))

/-- The running maximum before chunk `c`. -/
def mR : ℕ → FVec F S1x512 .f32
  | 0 => broadcast S1x512 (Scalar.ofBits .f32 0xF149F2CA#32)
  | c + 1 => maximumf (mR c) (B.cmax c)

/-- The factor the sums before chunk `c` are brought to the next maximum by. -/
def al (c : ℕ) : FVec F S1x512 .f32 := exp2 (subf (B.mR c) (B.mR (c + 1)))

/-- Weighted values before chunk `c`, under the running maximum. -/
def accR : ℕ → FVec F S128x512 .f32
  | 0 => broadcast S128x512 (Scalar.ofBits .f32 0x00000000#32)
  | c + 1 => addf (mulf (accR c) (broadcastTo S128x512 (B.al c) broadcasts_S1x512_S128x512)) (B.pv c (B.mR (c + 1)))

/-- Weights before chunk `c`, under the running maximum. -/
def lR : ℕ → FVec F S8x512 .f32
  | 0 => broadcast S8x512 (Scalar.ofBits .f32 0x00000000#32)
  | c + 1 => addf (mulf (lR c) (broadcastTo S8x512 (B.al c) broadcasts_S1x512_S8x512)) (B.ps c (B.mR (c + 1)))

/-! The same, read from right to left: what a trip's statements compute is one of the values above. -/

theorem sc_fold (c : ℕ) : matmul dot_S256x128_S128x512_S256x512_1_0_0_1_n_n none (B.kch c) B.qq (constant S256x512 .f32 0x00000000#32) = B.sc c := rfl
theorem cmax_fold (c : ℕ) : ∀ h₁ h₂ h₃ h₄, shapeCast S1x512 (multiReduction .maximumf [0] S512 (B.sc c) 0xFF800000#32 h₁ h₂ h₃) h₄ = B.cmax c :=
  fun _ _ _ _ => rfl
theorem ex_fold (c : ℕ) (m : FVec F S1x512 .f32) : ∀ h, exp2 (subf (B.sc c) (broadcastTo S256x512 m h)) = B.ex c m := fun _ => rfl
theorem pv_fold (c : ℕ) (m : FVec F S1x512 .f32) :
    ∀ h, matmul dot_S128x256_S256x512_S128x512_1_0_0_1_n_n none (B.vch c) (truncf .bf16 (B.ex c m) h) (constant S128x512 .f32 0x00000000#32) = B.pv c m :=
  fun _ => rfl
theorem ps_fold (c : ℕ) (m : FVec F S1x512 .f32) :
    ∀ h₁ h₂ h₃ h₄, multiReduction .add [0] S8x512 (shapeCast S32x8x512 (B.ex c m) h₁) 0x00000000#32 h₂ h₃ h₄ = B.ps c m :=
  fun _ _ _ _ => rfl
theorem accF_zero : B.pv 0 (B.cmax 0) = B.accF 0 := rfl
theorem accF_fold (c d : ℕ) (h : d = c + 1) : addf (B.accF c) (B.pv d (B.cmax 0)) = B.accF d := by subst h; rfl
theorem lF_zero : B.ps 0 (B.cmax 0) = B.lF 0 := rfl
theorem lF_fold (c d : ℕ) (h : d = c + 1) : addf (B.lF c) (B.ps d (B.cmax 0)) = B.lF d := by subst h; rfl
theorem mR_zero : broadcast S1x512 (Scalar.ofBits .f32 0xF149F2CA#32 : F .f32) = B.mR 0 := rfl
theorem mR_fold (c : ℕ) : maximumf (B.mR c) (B.cmax c) = B.mR (c + 1) := rfl
theorem al_fold (c d : ℕ) (h : d = c + 1) : exp2 (subf (B.mR c) (B.mR d)) = B.al c := by subst h; rfl
theorem accR_zero : broadcast S128x512 (Scalar.ofBits .f32 0x00000000#32 : F .f32) = B.accR 0 := rfl
theorem accR_fold (c d : ℕ) (h : d = c + 1) :
    ∀ h', addf (mulf (B.accR c) (broadcastTo S128x512 (B.al c) h')) (B.pv c (B.mR d)) = B.accR d := by subst h; exact fun _ => rfl
theorem lR_zero : broadcast S8x512 (Scalar.ofBits .f32 0x00000000#32 : F .f32) = B.lR 0 := rfl
theorem lR_fold (c d : ℕ) (h : d = c + 1) :
    ∀ h', addf (mulf (B.lR c) (broadcastTo S8x512 (B.al c) h')) (B.ps c (B.mR d)) = B.lR d := by subst h; exact fun _ => rfl

/-- A chunk of the block's keys, read at its offset. -/
theorem kch_of (o : ℕ) (h : ∀ a, (![o, 0] : Fin 2 → ℕ) a + S256x128.size a ≤ S16384x128.size a) (ho : o % 256 = 0) :
    View.ld B.k (Rect.unit (s := S16384x128) ![o, 0] S256x128.size h) = B.kch (o / 256 + 1) := by
  obtain ⟨c, rfl⟩ := Nat.dvd_of_mod_eq_zero ho
  rw [Nat.mul_div_cancel_left _ (by decide)]
  unfold kch
  dsimp only
  rw [dif_pos h]

/-- A chunk of the block's values, read at its offset. -/
theorem vch_of (o : ℕ) (h : ∀ a, (![0, o] : Fin 2 → ℕ) a + S128x256.size a ≤ S128x16384.size a) (ho : o % 256 = 0) :
    View.ld B.vt (Rect.unit (s := S128x16384) ![0, o] S128x256.size h) = B.vch (o / 256 + 1) := by
  obtain ⟨c, rfl⟩ := Nat.dvd_of_mod_eq_zero ho
  rw [Nat.mul_div_cancel_left _ (by decide)]
  unfold vch
  dsimp only
  rw [dif_pos h]

end Tile

/-! ## What a trip stores -/

/-- The test that the sums under the fixed shift are all below the bound. -/
def fits (acc : FVec F S128x512 .f32) (l : FVec F S8x512 .f32) : BitVec 1 :=
  Scalar.cmpi .ne (Scalar.extui (Scalar.andi
    (Scalar.cmpf (F := F) .olt (extractAt ![0, 0, 0] (shapeCast S1x1x1 (multiReduction .maximumf [1, 2] S1 (shapeCast S1x128x512
        (select (cmpf .olt (absf acc) (broadcast S128x512 (Scalar.ofBits .f32 0x71800000#32))) (broadcast S128x512 (Scalar.ofBits .f32 0x00000000#32))
          (broadcast S128x512 (Scalar.ofBits .f32 0x3F800000#32))) shapeCasts_S128x512_S1x128x512) 0xFF800000#32 reduces_S1x128x512_S1 (.inl rfl) rfl)
        shapeCasts_S1_S1x1x1) inpos_S1x1x1_p0_0_0) (Scalar.ofBits .f32 0x3F000000#32))
    (Scalar.cmpf (F := F) .olt (extractAt ![0, 0, 0] (shapeCast S1x1x1 (multiReduction .maximumf [1, 2] S1 (shapeCast S1x8x512
        (select (cmpf .olt (absf l) (broadcast S8x512 (Scalar.ofBits .f32 0x71800000#32))) (broadcast S8x512 (Scalar.ofBits .f32 0x00000000#32))
          (broadcast S8x512 (Scalar.ofBits .f32 0x3F800000#32))) shapeCasts_S8x512_S1x8x512) 0xFF800000#32 reduces_S1x8x512_S1 (.inl rfl) rfl)
        shapeCasts_S1_S1x1x1) inpos_S1x1x1_p0_0_0) (Scalar.ofBits .f32 0x3F000000#32))) : BitVec 32) 0#32

/-- The quotient of weighted values by weights. -/
def quot (acc : FVec F S128x512 .f32) (l : FVec F S8x512 .f32) : FVec F S128x512 .f32 :=
  divf acc (broadcastTo S128x512 (shapeCast S1x512 (multiReduction .add [0] S512 l 0x00000000#32 reduces_S8x512_S512 (.inl rfl) rfl)
    shapeCasts_S512_S1x512) broadcasts_S1x512_S128x512)

/-- The first component less `lam` times the second. -/
def diff (lam : FVec F S1x1 .f32) (o : FVec F S128x512 .f32) : FVec F S128x256 .f32 :=
  subf (extractStridedSlice S128x256 ![0, 0] o slices_S128x512_o0_0_S128x256)
    (mulf (broadcastTo S128x256 lam broadcasts_S1x1_S128x256) (extractStridedSlice S128x256 ![0, 256] o slices_S128x512_o0_256_S128x256))

/-- The reciprocal root of the mean square of each column. -/
def rms (d : FVec F S128x256 .f32) : FVec F S128x256 .f32 :=
  broadcastTo S128x256 (rsqrt (addf (divf (shapeCast S1x256 (multiReduction .add [0] S256 (mulf d d) 0x00000000#32 reduces_S128x256_S256 (.inl rfl) rfl)
    shapeCasts_S256_S1x256) (broadcast S1x256 (Scalar.ofBits .f32 0x43000000#32))) (broadcast S1x256 (Scalar.ofBits .f32 0x3727C5AC#32))))
    broadcasts_S1x256_S128x256

/-- The quotient a trip ends with: by the fixed shift's sums where they fit, else by the running maximum's. -/
def Tile.out (B : Tile F) : FVec F S128x512 .f32 :=
  quot (if fits (B.accF 64) (B.lF 64) = 1#1 then B.accF 64 else B.accR 65) (if fits (B.accF 64) (B.lF 64) = 1#1 then B.lF 64 else B.lR 65)

theorem Tile.out_pos (B : Tile F) (h : fits (B.accF 64) (B.lF 64) = 1#1) : B.out = quot (B.accF 64) (B.lF 64) := by
  unfold Tile.out; rw [if_pos h, if_pos h]

theorem Tile.out_neg (B : Tile F) (h : ¬fits (B.accF 64) (B.lF 64) = 1#1) : B.out = quot (B.accR 65) (B.lR 65) := by
  unfold Tile.out; rw [if_neg h, if_neg h]

/-- What a trip stores: the normalised difference, scaled. -/
def Tile.res (B : Tile F) (lam : FVec F S1x1 .f32) (g : Vec F S1x128 .f32) : FVec F S256x128 .bf16 :=
  k0_pay2 (diff lam B.out) (rms (diff lam B.out)) g

end Cert.Proof.KernelIdeal

end
-- ==== Proof.KernelIdealTrip.lean ====
/-
  One trip of the attention call's loop reads its operands and returns the values of `KernelIdealVals`.
-/
module

public import proofs.«01_k».proof.Proof.KernelIdealVals
public import Idealize.ShloMosaic.Lib.Pipeline.ValueKit.Basic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- What the kernel reads: the seven operands' blocks. -/
structure Ins (F : FTy → Type) [FloatOps F] where
  /-- The query rows. -/
  q : Vec F S1024x128 .bf16
  /-- The context keys. -/
  kc : Vec F S256x128 .bf16
  /-- The keys. -/
  k : Vec F S16384x128 .bf16
  /-- The context values, transposed. -/
  vtc : Vec F S128x256 .bf16
  /-- The values, transposed. -/
  vt : Vec F S128x16384 .bf16
  /-- The parameters of the mixing factor. -/
  dl : Vec F S4x64 .f32
  /-- The gain. -/
  sg : Vec F S1x128 .f32

/-- The operands of trip `k`: the query rows `256 k …`. -/
def Ins.tile (x : Ins F) (k : Fin k0_t1_loop.trips) : Tile F :=
  ⟨x.kc, x.k, x.vtc, x.vt, maskedQ (View.ld x.q (Rect.unit (s := S1024x128) (k0_off1 k) S256x128.size (k0_off1_inb k)))⟩

section

variable (c : Dev nD) (M2 : Memref sig .tc .vmem S1024x128 .bf16) (M3 : Memref sig .tc .vmem S256x128 .bf16)
  (M4 : Memref sig .tc .vmem S16384x128 .bf16) (M5 : Memref sig .tc .vmem S128x256 .bf16) (M6 : Memref sig .tc .vmem S128x16384 .bf16)
  (M7 : Memref sig .tc .vmem S4x64 .f32) (M8 : Memref sig .tc .vmem S1x128 .f32) (x : Ins F)

/-- The seven operands' staging buffers, at their blocks. -/
def held : sProp 𝕄 :=
  iprop(owns (c : Thread nD τ) M2 fullShare x.q ∗ owns (c : Thread nD τ) M3 fullShare x.kc ∗ owns (c : Thread nD τ) M4 fullShare x.k
    ∗ owns (c : Thread nD τ) M5 fullShare x.vtc ∗ owns (c : Thread nD τ) M6 fullShare x.vt ∗ owns (c : Thread nD τ) M7 fullShare x.dl
    ∗ owns (c : Thread nD τ) M8 fullShare x.sg)

/-- A program that reads, holding the operands. -/
abbrev Rd {α : Type} (p : Prog (TpuEff nD τ sig (Elt F) Λ₀ .tc) α) (a : α) : Prop :=
  Reads (Ix := Unit) (Name := ℕ) (U := UR sig nD τ) (Lvl := ℕ) (defs₀ (F := F)) 𝒱₀ (c : Thread nD τ) none Set.univ (held c M2 M3 M4 M5 M6 M7 M8 x) p a

variable {c M2 M3 M4 M5 M6 M7 M8 x}

/-- The query rows of a trip. -/
theorem rd_q {r : Rect S1024x128} {hl : M2.view.LoadsAt r.toLoadRect} :
    Rd c M2 M3 M4 M5 M6 M7 M8 x (Prog.lift (.load M2 r.toLoadRect hl)) (View.ld x.q r) :=
  Reads.load (q := fullShare) (by
    unfold held
    iintro ⟨H2, H3, H4, H5, H6, H7, H8⟩
    isplitl [H2]; · iexact H2
    iintro H2
    isplitl [H2]; · iexact H2
    isplitl [H3]; · iexact H3
    isplitl [H4]; · iexact H4
    isplitl [H5]; · iexact H5
    isplitl [H6]; · iexact H6
    isplitl [H7]; · iexact H7
    iexact H8)

/-- The context keys. -/
theorem rd_kc (k : Fin k0_t1_loop.trips) {h} {hl : M3.view.LoadsAt (Rect.unit (s := S256x128) ![0, 0] S256x128.size h).toLoadRect} :
    Rd c M2 M3 M4 M5 M6 M7 M8 x (Prog.lift (.load M3 (Rect.unit (s := S256x128) ![0, 0] S256x128.size h).toLoadRect hl)) ((x.tile k).kch 0) := by
  have e : View.ld x.kc (Rect.unit (s := S256x128) ![0, 0] S256x128.size h) = (x.tile k).kch 0 :=
    View.ld_unit_lit h x.kc (by decide)
  rw [← e]
  refine Reads.load (q := fullShare) ?_
  unfold held
  iintro ⟨H2, H3, H4, H5, H6, H7, H8⟩
  isplitl [H3]; · iexact H3
  iintro H3
  isplitl [H2]; · iexact H2
  isplitl [H3]; · iexact H3
  isplitl [H4]; · iexact H4
  isplitl [H5]; · iexact H5
  isplitl [H6]; · iexact H6
  isplitl [H7]; · iexact H7
  iexact H8

/-- A chunk of the keys. -/
theorem rd_k (k : Fin k0_t1_loop.trips) {o : ℕ} {h} {hl : M4.view.LoadsAt (Rect.unit (s := S16384x128) ![o, 0] S256x128.size h).toLoadRect} (ho : o % 256 = 0) :
    Rd c M2 M3 M4 M5 M6 M7 M8 x (Prog.lift (.load M4 (Rect.unit (s := S16384x128) ![o, 0] S256x128.size h).toLoadRect hl)) ((x.tile k).kch (o / 256 + 1)) := by
  rw [← (x.tile k).kch_of o h ho]
  refine Reads.load (q := fullShare) ?_
  unfold held
  iintro ⟨H2, H3, H4, H5, H6, H7, H8⟩
  isplitl [H4]; · iexact H4
  iintro H4
  isplitl [H2]; · iexact H2
  isplitl [H3]; · iexact H3
  isplitl [H4]; · iexact H4
  isplitl [H5]; · iexact H5
  isplitl [H6]; · iexact H6
  isplitl [H7]; · iexact H7
  iexact H8

/-- The context values. -/
theorem rd_vtc (k : Fin k0_t1_loop.trips) {h} {hl : M5.view.LoadsAt (Rect.unit (s := S128x256) ![0, 0] S128x256.size h).toLoadRect} :
    Rd c M2 M3 M4 M5 M6 M7 M8 x (Prog.lift (.load M5 (Rect.unit (s := S128x256) ![0, 0] S128x256.size h).toLoadRect hl)) ((x.tile k).vch 0) := by
  have e : View.ld x.vtc (Rect.unit (s := S128x256) ![0, 0] S128x256.size h) = (x.tile k).vch 0 :=
    View.ld_unit_lit h x.vtc (by decide)
  rw [← e]
  refine Reads.load (q := fullShare) ?_
  unfold held
  iintro ⟨H2, H3, H4, H5, H6, H7, H8⟩
  isplitl [H5]; · iexact H5
  iintro H5
  isplitl [H2]; · iexact H2
  isplitl [H3]; · iexact H3
  isplitl [H4]; · iexact H4
  isplitl [H5]; · iexact H5
  isplitl [H6]; · iexact H6
  isplitl [H7]; · iexact H7
  iexact H8

/-- A chunk of the values. -/
theorem rd_vt (k : Fin k0_t1_loop.trips) {o : ℕ} {h} {hl : M6.view.LoadsAt (Rect.unit (s := S128x16384) ![0, o] S128x256.size h).toLoadRect} (ho : o % 256 = 0) :
    Rd c M2 M3 M4 M5 M6 M7 M8 x (Prog.lift (.load M6 (Rect.unit (s := S128x16384) ![0, o] S128x256.size h).toLoadRect hl)) ((x.tile k).vch (o / 256 + 1)) := by
  rw [← (x.tile k).vch_of o h ho]
  refine Reads.load (q := fullShare) ?_
  unfold held
  iintro ⟨H2, H3, H4, H5, H6, H7, H8⟩
  isplitl [H6]; · iexact H6
  iintro H6
  isplitl [H2]; · iexact H2
  isplitl [H3]; · iexact H3
  isplitl [H4]; · iexact H4
  isplitl [H5]; · iexact H5
  isplitl [H6]; · iexact H6
  isplitl [H7]; · iexact H7
  iexact H8

/-- The parameters of the mixing factor. -/
theorem rd_dl {h} {hl : M7.view.LoadsAt (Rect.unit (s := S4x64) ![0, 0] S4x64.size h).toLoadRect} :
    Rd c M2 M3 M4 M5 M6 M7 M8 x (Prog.lift (.load M7 (Rect.unit (s := S4x64) ![0, 0] S4x64.size h).toLoadRect hl)) x.dl := by
  have e : View.ld x.dl (Rect.unit (s := S4x64) ![0, 0] S4x64.size h) = x.dl := View.ld_unit_lit h x.dl (by decide)
  refine Eq.subst (motive := fun v => Rd c M2 M3 M4 M5 M6 M7 M8 x _ v) e (Reads.load (q := fullShare) ?_)
  unfold held
  iintro ⟨H2, H3, H4, H5, H6, H7, H8⟩
  isplitl [H7]; · iexact H7
  iintro H7
  isplitl [H2]; · iexact H2
  isplitl [H3]; · iexact H3
  isplitl [H4]; · iexact H4
  isplitl [H5]; · iexact H5
  isplitl [H6]; · iexact H6
  isplitl [H7]; · iexact H7
  iexact H8

/-- The gain. -/
theorem rd_sg {h} {hl : M8.view.LoadsAt (Rect.unit (s := S1x128) ![0, 0] S1x128.size h).toLoadRect} :
    Rd c M2 M3 M4 M5 M6 M7 M8 x (Prog.lift (.load M8 (Rect.unit (s := S1x128) ![0, 0] S1x128.size h).toLoadRect hl)) x.sg := by
  have e : View.ld x.sg (Rect.unit (s := S1x128) ![0, 0] S1x128.size h) = x.sg := View.ld_unit_lit h x.sg (by decide)
  refine Eq.subst (motive := fun v => Rd c M2 M3 M4 M5 M6 M7 M8 x _ v) e (Reads.load (q := fullShare) ?_)
  unfold held
  iintro ⟨H2, H3, H4, H5, H6, H7, H8⟩
  isplitl [H8]; · iexact H8
  iintro H8
  isplitl [H2]; · iexact H2
  isplitl [H3]; · iexact H3
  isplitl [H4]; · iexact H4
  isplitl [H5]; · iexact H5
  isplitl [H6]; · iexact H6
  isplitl [H7]; · iexact H7
  iexact H8

variable (i : grid0.Coords) (h2 : M2.IsWhole) (h3 : M3.IsWhole) (h4 : M4.IsWhole) (h5 : M5.IsWhole) (h6 : M6.IsWhole) (h7 : M7.IsWhole)
  (h8 : M8.IsWhole) (M9 : Memref sig .tc .vmem S1024x128 .bf16) (h9 : M9.IsWhole) (k : Fin k0_t1_loop.trips)

set_option maxHeartbeats 1000000 in
/-- The pass under the running maximum returns the sums over all chunks, the last of the weights' terms still to be added. -/
theorem rd_part32 : Rd c M2 M3 M4 M5 M6 M7 M8 x (k0_part32 (F := F) i M2 h2 M3 h3 M4 h4 M5 h5 M6 h6 M7 h7 M8 h8 M9 h9 (x.tile k).qq)
    ⟨(x.tile k).lR 64, (x.tile k).ps 64 ((x.tile k).mR 65), (x.tile k).accR 65, broadcastTo S8x512 ((x.tile k).al 64) broadcasts_S1x512_S8x512⟩ := by
  dsimp only [k0_part32]
  iterate 31
    apply Reads.bind
    · dsimp only [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31]
      repeat (with_reducible apply Reads.bind; first | with_reducible exact rd_kc k | with_reducible exact rd_vtc k | with_reducible exact rd_k k (by decide) | with_reducible exact rd_vt k (by decide))
      exact Reads.pure _
    simp only [Nat.reduceDiv, Nat.reduceAdd, Tile.sc_fold, Tile.cmax_fold, Tile.ex_fold, Tile.pv_fold, Tile.ps_fold, (x.tile k).mR_zero, (x.tile k).accR_zero, (x.tile k).lR_zero, Tile.mR_fold, Tile.al_fold, Tile.accR_fold, Tile.lR_fold]
  apply Reads.bind
  · exact rd_vt k (by decide)
  simp only [Nat.reduceDiv, Nat.reduceAdd, Tile.sc_fold, Tile.cmax_fold, Tile.ex_fold, Tile.pv_fold, Tile.ps_fold, (x.tile k).mR_zero, (x.tile k).accR_zero, (x.tile k).lR_zero, Tile.mR_fold, Tile.al_fold, Tile.accR_fold, Tile.lR_fold]
  exact Reads.pure _

set_option maxHeartbeats 1000000 in
/-- The end of a trip: the quotient of whichever sums apply, the difference of its components and the reciprocal root. -/
theorem rd_part54 (lam : FVec F S1x1 .f32) :
    Rd c M2 M3 M4 M5 M6 M7 M8 x (k0_part54 (F := F) i M2 h2 M3 h3 M4 h4 M5 h5 M6 h6 M7 h7 M8 h8 M9 h9 lam (x.tile k).qq
      ((x.tile k).lF 63) ((x.tile k).ps 64 ((x.tile k).cmax 0)) ((x.tile k).accF 64))
    ⟨diff lam (x.tile k).out, rms (diff lam (x.tile k).out)⟩ := by
  dsimp only [k0_part54]
  apply Reads.ite
  · intro h
    rw [Tile.out_pos _ h]
    apply Reads.bind
    · exact Reads.pure _
    exact Reads.pure _
  · intro h
    rw [Tile.out_neg _ h]
    apply Reads.bind
    · exact rd_part32 i h2 h3 h4 h5 h6 h7 h8 M9 h9 k
    apply Reads.bind
    · exact Reads.pure _
    exact Reads.pure _

end

end Cert.Proof.KernelIdeal

end
-- ==== Proof.KernelIdealRun.lean ====
/-
  The attention call's run: one trip stores its rows, the four trips fill the block, every point of the grid runs, and
  the program ends with each array at the library's value.
-/
module

public import proofs.«01_k».proof.Proof.KernelIdealTrip
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem trips_eq : k0_t1_loop.trips = 4 := by decide

/-- The trip that writes row `r` of a block. -/
def tripOf (r : Fin 1024) : Fin k0_t1_loop.trips := ⟨r.val / 256, by rw [trips_eq]; omega⟩

/-- The place of an element of a block within its trip's rows. -/
def inTrip (y : S1024x128.Idx) : S256x128.Idx := fun a => match a with
  | 0 => ⟨(y 0).val % 256, Nat.mod_lt _ (by decide)⟩
  | 1 => ⟨(y 1).val, (y 1).isLt⟩

/-- The block's result: row `r` is row `r % 256` of what trip `r / 256` stores. -/
def Ins.outBlk (x : Ins F) : Vec F S1024x128 .bf16 := fun y =>
  (x.tile (tripOf (y 0))).res (k0_pay1 x.dl) x.sg (inTrip y)

/-- The rows of trip `k` sit at offset `256 k`. -/
theorem emb_off2 (k : Fin k0_t1_loop.trips) (j : (Rect.unit (s := S1024x128) (k0_off2 k) S256x128.size (k0_off2_inb k)).shape.Idx) :
    ((Rect.unit (s := S1024x128) (k0_off2 k) S256x128.size (k0_off2_inb k)).emb j 0 : ℕ) = 256 * k.val + (j 0).val
      ∧ ((Rect.unit (s := S1024x128) (k0_off2 k) S256x128.size (k0_off2_inb k)).emb j 1 : ℕ) = (j 1).val := by
  have h0 : k0_off2 k 0 = 256 * k.val := by rw [k0_off2_eq]; rfl
  have h1 : k0_off2 k 1 = 0 := by rw [k0_off2_eq]; rfl
  constructor
  · show k0_off2 k 0 + 1 * _ = _
    rw [h0, Nat.one_mul]
  · show k0_off2 k 1 + 1 * _ = _
    rw [h1, Nat.one_mul, Nat.zero_add]

/-- After trip `k`'s rows are written, the block is right up to row `256 (k + 1)`. -/
theorem outBlk_step (x : Ins F) (k : Fin k0_t1_loop.trips) (d d' : Vec F S1024x128 .bf16)
    (hd : ∀ y : S1024x128.Idx, (y 0).val < 256 * k.val → d y = x.outBlk y)
    (h1 : ∀ j, d' ((Rect.unit (s := S1024x128) (k0_off2 k) S256x128.size (k0_off2_inb k)).emb j) = (x.tile k).res (k0_pay1 x.dl) x.sg j)
    (h2 : ∀ y, (∀ j, (Rect.unit (s := S1024x128) (k0_off2 k) S256x128.size (k0_off2_inb k)).emb j ≠ y) → d' y = d y)
    (y : S1024x128.Idx) (hy : (y 0).val < 256 * (k.val + 1)) : d' y = x.outBlk y := by
  by_cases h : (y 0).val < 256 * k.val
  · rw [← hd y h]
    refine h2 y fun j hj => ?_
    have := (emb_off2 k j).1
    rw [hj] at this
    omega
  · let j : (Rect.unit (s := S1024x128) (k0_off2 k) S256x128.size (k0_off2_inb k)).shape.Idx := inTrip y
    have hj : (Rect.unit (s := S1024x128) (k0_off2 k) S256x128.size (k0_off2_inb k)).emb j = y := by
      funext a
      apply Fin.ext
      match a with
      | 0 =>
        refine (emb_off2 k j).1.trans ?_
        show 256 * k.val + (y 0).val % 256 = (y 0).val
        omega
      | 1 => exact (emb_off2 k j).2
    have hk : tripOf (y 0) = k := Fin.ext (by show (y 0).val / 256 = k.val; omega)
    have e := h1 j
    rw [hj] at e
    rw [e]
    unfold Ins.outBlk
    rw [hk]

section

variable (c : Dev nD) (M2 : Memref sig .tc .vmem S1024x128 .bf16) (h2 : M2.IsWhole) (M3 : Memref sig .tc .vmem S256x128 .bf16) (h3 : M3.IsWhole)
  (M4 : Memref sig .tc .vmem S16384x128 .bf16) (h4 : M4.IsWhole) (M5 : Memref sig .tc .vmem S128x256 .bf16) (h5 : M5.IsWhole)
  (M6 : Memref sig .tc .vmem S128x16384 .bf16) (h6 : M6.IsWhole) (M7 : Memref sig .tc .vmem S4x64 .f32) (h7 : M7.IsWhole)
  (M8 : Memref sig .tc .vmem S1x128 .f32) (h8 : M8.IsWhole) (M9 : Memref sig .tc .vmem S1024x128 .bf16) (h9 : M9.IsWhole)
  (x : Ins F) (i : grid0.Coords)

/-- Before trip `k`: the operands, and the result's block right in its first `256 k` rows. -/
def inv (k : ℕ) (_ : Unit) : sProp 𝕄 :=
  iprop(held c M2 M3 M4 M5 M6 M7 M8 x ∗ ∃ d, ⌜∀ y : S1024x128.Idx, (y 0).val < 256 * k → d y = x.outBlk y⌝
    ∗ owns (c : Thread nD τ) M9 fullShare d)

/-- What holds of the operands with the result's block at each of its possible contents holds of the invariant. -/
theorem inv_elim (k : ℕ) {P : sProp 𝕄}
    (h : ∀ d, (∀ y : S1024x128.Idx, (y 0).val < 256 * k → d y = x.outBlk y) →
      iprop(owns (c : Thread nD τ) M9 fullShare d ∗ held c M2 M3 M4 M5 M6 M7 M8 x) ⊢ P) :
    iprop(held c M2 M3 M4 M5 M6 M7 M8 x ∗ ∃ d, ⌜∀ y : S1024x128.Idx, (y 0).val < 256 * k → d y = x.outBlk y⌝
      ∗ owns (c : Thread nD τ) M9 fullShare d) ⊢ P := by
  iintro ⟨H, %d, %hd, H9⟩
  iapply (h d hd)
  isplitl [H9]; · iexact H9
  iexact H

set_option maxHeartbeats 2000000 in
/-- One trip takes the block from `256 k` rows to `256 (k + 1)`. -/
theorem trip (k : Fin k0_t1_loop.trips) (acc : Unit) :
    inv c M2 M3 M4 M5 M6 M7 M8 M9 x k.val acc ⊢ wp frame (wpE (defs₀ (F := F)) 𝒱₀ (c : Thread nD τ) none) Set.univ
      (k0_t1_body (F := F) i M2 h2 M3 h3 M4 h4 M5 h5 M6 h6 M7 h7 M8 h8 M9 h9 x.dl k acc)
      (inv c M2 M3 M4 M5 M6 M7 M8 M9 x (k.val + 1)) := by
  dsimp only [k0_t1_body]
  unfold inv
  iterate 21
    apply Reads.head
    · dsimp only [k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53]
      repeat (with_reducible apply Reads.bind; first | with_reducible exact rd_kc k | with_reducible exact rd_vtc k | with_reducible exact rd_k k (by decide) | with_reducible exact rd_vt k (by decide) | with_reducible exact rd_q)
      exact Reads.pure _
    simp only [Nat.reduceDiv, Nat.reduceAdd, Tile.sc_fold, Tile.cmax_fold, Tile.ex_fold, Tile.pv_fold, Tile.ps_fold, Tile.accF_zero, Tile.lF_zero]
  apply Reads.head
  · exact rd_part54 i h2 h3 h4 h5 h6 h7 h8 M9 h9 k _
  apply Reads.head
  · exact rd_sg
  refine inv_elim c M2 M3 M4 M5 M6 M7 M8 M9 x k.val fun d hd => ?_
  refine Reads.head (Reads.load (q := fullShare) (x := d) ?_) ?_
  · iintro H
    isplitl [H]; · iexact H
    iintro H
    iexact H
  rw [wp_bind]
  apply owns_store
  intro d' h1 h2
  rw [wp_pure]
  iintro ⟨H9, H⟩
  imodintro
  isplitl [H]; · iexact H
  iexists d'
  isplitr; · ipureintro; exact outBlk_step x k d d' hd h1 h2
  iexact H9

set_option maxHeartbeats 1000000 in
/-- The body at a point of the grid: the operands' blocks come back, the result's block at `outBlk`. -/
theorem triple (K : Unit → sProp 𝕄) :
    iprop(held c M2 M3 M4 M5 M6 M7 M8 x ∗ (∃ d, owns (c : Thread nD τ) M9 fullShare d)
      ∗ (held c M2 M3 M4 M5 M6 M7 M8 x ∗ owns (c : Thread nD τ) M9 fullShare x.outBlk -∗ K ⟨⟩))
    ⊢ wp frame (wpE (defs₀ (F := F)) 𝒱₀ (c : Thread nD τ) none) Set.univ
      (cc0_attn (F := F) i M2 h2 M3 h3 M4 h4 M5 h5 M6 h6 M7 h7 M8 h8 M9 h9) K := by
  rw [cc0_attn_eq_skeleton]
  dsimp only [cc0_attn_skel]
  apply Reads.head
  · exact rd_dl
  iintro ⟨H, ⟨%d, H9⟩, HK⟩
  iapply (Scf.wp_for_bind _ _ _ _ _ _ _ _ _ (inv c M2 M3 M4 M5 M6 M7 M8 M9 x) (trip c M2 h2 M3 h3 M4 h4 M5 h5 M6 h6 M7 h7 M8 h8 M9 h9 x i)) $$ [H H9]
  · unfold inv
    isplitl [H]; · iexact H
    iexists d
    isplitr; · ipureintro; intro y hy; omega
    iexact H9
  iintro %acc HI
  unfold inv
  icases HI with ⟨H, %d', %hd', H9⟩
  rw [wp_pure]
  imodintro
  iapply HK
  isplitl [H]; · iexact H
  have e : d' = x.outBlk := funext fun y => hd' y (by
    have := (y 0).isLt
    show (y 0).val < 256 * k0_t1_loop.trips
    rw [trips_eq]
    exact this)
  subst e
  iexact H9

end

/-! ## The run -/

variable (m : (ℓ : Loc nD τ sig) → Buf (Elt F) ℓ) (ρ : Dev nD → PrngReg)

/-- The operands' blocks at a point of the grid. -/
def insAt (c : Dev nD) (t : Fin cfg0.N) : Ins F :=
  ⟨iblk m c 0 t, iblk m c 1 t, iblk m c 2 t, iblk m c 3 t, iblk m c 4 t, iblk m c 5 t, iblk m c 6 t⟩

/-- The launch's data: each operand's array and block, and the result's block after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (insAt m c t).outBlk
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (insAt m c t).outBlk := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

set_option maxHeartbeats 1000000 in
/-- Every point of the grid runs: the operands keep their blocks, the result's block is `outBlk` of them. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl, after0_0, after0_1, after0_2, after0_3, after0_4,
    after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (triple c _ _ _ _ _ _ _ _ _ _ _ _ _ _ _ _ (insAt m c t))
  unfold held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  iintro ⟨⟨H0, H1, H2, H3, H4, H5, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- Every fair run of the program ends, with each array of the pipeline at the value its data give and all counters at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: every fair run ends, the arguments unchanged and all counters at zero. -/
theorem frame : type_of% (θ_run_with_sems (frame_of m ρ (dats m) fun _ _ => rfl) (run_main m ρ)) :=
  θ_run_with_sems (frame_of m ρ (dats m) fun _ _ => rfl) (run_main m ρ)

end Cert.Proof.KernelIdeal

end
-- ==== Proof.Blocks.lean ====
/-
  The operands' blocks at a point of the grid, entry by entry: point `t` is head `t / 16`, query rows `1024 (t % 16) …`.
-/
module

public import proofs.«01_k».proof.Proof.KernelIdealRun
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F] (m : (ℓ : Loc nD τ sig) → Buf (Elt F) ℓ) (c : Dev nD)

theorem index0 : ∀ t : Fin cfg0.N, win0_0.index t 0 = t.val % 16 ∧ win0_0.index t 1 = t.val / 16 := by decide +kernel
theorem index1 : ∀ t : Fin cfg0.N, win0_1.index t 0 = 0 ∧ win0_1.index t 1 = t.val / 16 := by decide +kernel
theorem index2 : ∀ t : Fin cfg0.N, win0_2.index t 0 = 0 ∧ win0_2.index t 1 = t.val / 16 := by decide +kernel
theorem index3 : ∀ t : Fin cfg0.N, win0_3.index t 0 = t.val / 16 ∧ win0_3.index t 1 = 0 := by decide +kernel
theorem index4 : ∀ t : Fin cfg0.N, win0_4.index t 0 = t.val / 16 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = t.val % 16 ∧ win0_7.index t 1 = t.val / 16 := by decide +kernel

/-- The grid has eight heads of sixteen row blocks. -/
theorem point_lt (t : Fin cfg0.N) : t.val < 128 := t.isLt

/-- The head of a point. -/
def headOf (t : Fin cfg0.N) : Fin 8 := ⟨t.val / 16, by have := point_lt t; omega⟩

/-- The context keys of a point: the head's lanes. -/
theorem kc_apply (t : Fin cfg0.N) (i : Fin 256) (a : Fin 128) :
    (insAt m c t).kc (ix2 i a) = m ((c : Thread nD τ).loc main_arg1) (ix2 i ⟨128 * (headOf t).val + a.val, by omega⟩) := by
  have e : (insAt m c t).kc (ix2 i a) = V m c main_arg1 ((win0_1.rect t).emb (ix2 i a)) := rfl
  rw [e, V_main_arg1]
  congr 1
  obtain ⟨h0, h1⟩ := index1 t
  funext b
  apply Fin.ext
  match b with
  | 0 => show win0_1.index t 0 * 256 + 1 * i.val = i.val; omega
  | 1 => show win0_1.index t 1 * 128 + 1 * a.val = 128 * (t.val / 16) + a.val; omega

/-- The keys of a point. -/
theorem k_apply (t : Fin cfg0.N) (i : Fin 16384) (a : Fin 128) :
    (insAt m c t).k (ix2 i a) = m ((c : Thread nD τ).loc main_arg2) (ix2 i ⟨128 * (headOf t).val + a.val, by omega⟩) := by
  have e : (insAt m c t).k (ix2 i a) = V m c main_arg2 ((win0_2.rect t).emb (ix2 i a)) := rfl
  rw [e, V_main_arg2]
  congr 1
  obtain ⟨h0, h1⟩ := index2 t
  funext b
  apply Fin.ext
  match b with
  | 0 => show win0_2.index t 0 * 16384 + 1 * i.val = i.val; omega
  | 1 => show win0_2.index t 1 * 128 + 1 * a.val = 128 * (t.val / 16) + a.val; omega

/-- The context values of a point. -/
theorem vtc_apply (t : Fin cfg0.N) (d : Fin 128) (i : Fin 256) :
    (insAt m c t).vtc (ix2 d i) = m ((c : Thread nD τ).loc main_arg3) (ix2 ⟨128 * (headOf t).val + d.val, by omega⟩ i) := by
  have e : (insAt m c t).vtc (ix2 d i) = V m c main_arg3 ((win0_3.rect t).emb (ix2 d i)) := rfl
  rw [e, V_main_arg3]
  congr 1
  obtain ⟨h0, h1⟩ := index3 t
  funext b
  apply Fin.ext
  match b with
  | 0 => show win0_3.index t 0 * 128 + 1 * d.val = 128 * (t.val / 16) + d.val; omega
  | 1 => show win0_3.index t 1 * 256 + 1 * i.val = i.val; omega

/-- The values of a point. -/
theorem vt_apply (t : Fin cfg0.N) (d : Fin 128) (i : Fin 16384) :
    (insAt m c t).vt (ix2 d i) = m ((c : Thread nD τ).loc main_arg4) (ix2 ⟨128 * (headOf t).val + d.val, by omega⟩ i) := by
  have e : (insAt m c t).vt (ix2 d i) = V m c main_arg4 ((win0_4.rect t).emb (ix2 d i)) := rfl
  rw [e, V_main_arg4]
  congr 1
  obtain ⟨h0, h1⟩ := index4 t
  funext b
  apply Fin.ext
  match b with
  | 0 => show win0_4.index t 0 * 128 + 1 * d.val = 128 * (t.val / 16) + d.val; omega
  | 1 => show win0_4.index t 1 * 16384 + 1 * i.val = i.val; omega

/-! ## What the host prepares -/

/-- The queries as the launch finds them: scaled. -/
theorem V_main_v4 : V m c main_v4 = truncf .bf16 (mulf (m ((c : Thread nD τ).loc main_arg0))
    (broadcastInDim S16384x1024 ![] bcast_S_S16384x1024 (Host.divf (constant S_ .f32 0x3E000000#32) (Host.log (constant S_ .f32 0x40000000#32))))) bitsLt_bf16_f32 := by
  unfold V
  after_results_simp <;> rfl

/-- The factor's parameters as the launch finds them: the argument, one axis less. -/
theorem V_main_v5 : V m c main_v5 = shapeCast S4x64 (m ((c : Thread nD τ).loc main_arg5)) shapeCasts_S1x4x64_S4x64 := by
  unfold V
  after_results_simp <;> rfl

/-- The gain as the launch finds it: the argument. -/
theorem V_main_v7 : V m c main_v7 = shapeCast S1x128 (shapeCast S128 (m ((c : Thread nD τ).loc main_arg6)) shapeCasts_S1x128_S128) shapeCasts_S128_S1x128 := by
  unfold V
  after_results_simp <;> rfl

end Cert.Proof.KernelIdeal

end
-- ==== Proof.Soft.lean ====
/-
  The real numbers behind the attention: an average weighted by exponentials does not depend on the number the exponents
  are shifted by, nor on the base the exponentials are written in, and sums of real numbers stay real in the extended reals.
-/
module

public import Idealize.ShloMosaic.Lib.Pointwise
public import Mathlib.Tactic.Ring
public import Mathlib.Tactic.FieldSimp
public import Mathlib.Tactic.Positivity
public import Mathlib.Tactic.Linarith

@[expose] public section

noncomputable section

namespace Cert.Proof.Soft

open Idealize.ShloMosaic Finset

/-- A finite sum of real numbers, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- The quotient of two real numbers, the second not zero. -/
theorem div_real (a b : ℝ) (hb : b ≠ 0) : Ideal.div (a : EReal) (b : EReal) = ((a / b : ℝ) : EReal) := by
  rw [Ideal.div_coe hb, ← EReal.coe_mul, mul_one_div]

/-- The largest of finitely many real numbers, at least one, is real. -/
theorem fold_max_real {ι : Type*} (s : Finset ι) (hs : s.Nonempty) (f : ι → ℝ) :
    ∃ M : ℝ, s.fold max (⊥ : EReal) (fun k => ((f k : ℝ) : EReal)) = (M : EReal) := by
  refine ⟨(s.fold max (⊥ : EReal) (fun k => ((f k : ℝ) : EReal))).toReal, (EReal.coe_toReal ?_ ?_).symm⟩
  · exact ne_of_lt ((Finset.fold_max_lt _).2 ⟨bot_lt_top, fun x _ => EReal.coe_lt_top _⟩)
  · obtain ⟨k, hk⟩ := hs
    exact ne_of_gt ((Finset.lt_fold_max _).2 (Or.inr ⟨k, hk, EReal.bot_lt_coe _⟩))

/-- The average of `v` over the first `N` places, weighted by the exponentials of `s`. -/
def wavg (N : ℕ) (s v : ℕ → ℝ) : ℝ := (∑ n ∈ range N, v n * Real.exp (s n)) / ∑ n ∈ range N, Real.exp (s n)

/-- The weights sum to a positive number. -/
theorem sum_exp_pos (N : ℕ) (hN : 0 < N) (s : ℕ → ℝ) : 0 < ∑ n ∈ range N, Real.exp (s n) :=
  Finset.sum_pos (fun _ _ => Real.exp_pos _) ⟨0, mem_range.2 hN⟩

/-- Weights normalised one by one, their exponents shifted, give the average. -/
theorem wavg_shift (N : ℕ) (hN : 0 < N) (s v : ℕ → ℝ) (M : ℝ) :
    ∑ n ∈ range N, v n * (Real.exp (s n - M) / ∑ k ∈ range N, Real.exp (s k - M)) = wavg N s v := by
  have h := sum_exp_pos N hN s
  have hM := Real.exp_pos M
  have d : ∑ k ∈ range N, Real.exp (s k - M) = (∑ k ∈ range N, Real.exp (s k)) / Real.exp M := by
    rw [Finset.sum_div]
    exact Finset.sum_congr rfl fun k _ => Real.exp_sub _ _
  have e : ∀ n, v n * (Real.exp (s n - M) / ∑ k ∈ range N, Real.exp (s k - M)) = v n * Real.exp (s n) / ∑ k ∈ range N, Real.exp (s k) := fun n => by
    rw [d, Real.exp_sub]
    field_simp
  rw [Finset.sum_congr rfl fun n _ => e n, ← Finset.sum_div, wavg]

/-- Powers of two as exponentials. -/
theorem two_rpow (x : ℝ) : Real.rpow 2 x = Real.exp (Real.log 2 * x) := by
  show (2 : ℝ) ^ x = _
  rw [Real.rpow_def_of_pos two_pos]

theorem two_rpow_pos (x : ℝ) : 0 < Real.rpow 2 x := by rw [two_rpow]; exact Real.exp_pos _

theorem two_rpow_add (x y : ℝ) : Real.rpow 2 x * Real.rpow 2 y = Real.rpow 2 (x + y) := by
  rw [two_rpow, two_rpow, two_rpow, ← Real.exp_add, mul_add]

/-- The quotient of sums weighted by shifted powers of two is the average with the exponents times `log 2`. -/
theorem wavg_two (N : ℕ) (hN : 0 < N) (t v : ℕ → ℝ) (m : ℝ) :
    (∑ n ∈ range N, v n * Real.rpow 2 (t n - m)) / ∑ n ∈ range N, Real.rpow 2 (t n - m) = wavg N (fun n => Real.log 2 * t n) v := by
  have h := sum_exp_pos N hN (fun n => Real.log 2 * t n)
  have hM := Real.exp_pos (Real.log 2 * m)
  have e : ∀ n, Real.rpow 2 (t n - m) = Real.exp (Real.log 2 * t n) / Real.exp (Real.log 2 * m) := fun n => by
    rw [two_rpow, mul_sub, Real.exp_sub]
  simp only [e, ← mul_div_assoc, ← Finset.sum_div, wavg]
  field_simp

/-- A sum over the first `K (c + 1)` places is the sum over the first `K c` and one over the next `K`. -/
theorem sum_chunk (K c : ℕ) (f : ℕ → ℝ) :
    ∑ n ∈ range (K * (c + 1)), f n = ∑ n ∈ range (K * c), f n + ∑ i : Fin K, f (K * c + i.val) := by
  rw [Nat.mul_succ, sum_range_add, Fin.sum_univ_eq_sum_range (fun i => f (K * c + i))]

/-- Thirty-two groups of eight. -/
theorem sum_groups (f : ℕ → ℝ) : ∑ y : Fin 8, ∑ g : Fin 32, f (8 * g.val + y.val) = ∑ i : Fin 256, f i.val := by
  rw [sum_comm, Fin.sum_univ_eq_sum_range (fun g => ∑ y : Fin 8, f (8 * g + y.val)) 32, Fin.sum_univ_eq_sum_range f 256]
  have h : ∀ c, ∑ g ∈ range c, ∑ y : Fin 8, f (8 * g + y.val) = ∑ n ∈ range (8 * c), f n := by
    intro c
    induction c with
    | zero => simp
    | succ c ih => rw [sum_range_succ, ih, sum_chunk]
  exact h 32

/-- The literals the programs use, as real numbers. -/
theorem lit_neg_inf : Ideal.ofBits .f32 0xFF800000#32 = (⊥ : EReal) := by
  simp [Ideal.ofBits, Ideal.ieee]

theorem lit_inf : Ideal.ofBits .f32 0x7F800000#32 = (⊤ : EReal) := by
  simp [Ideal.ofBits, Ideal.ieee]

theorem lit_two : Ideal.ofBits .f32 0x40000000#32 = ((2 : ℝ) : EReal) := by
  simp [Ideal.ofBits, Ideal.ieee, -EReal.coe_mul]
  norm_num

theorem lit_eighth : Ideal.ofBits .f32 0x3E000000#32 = ((1 / 8 : ℝ) : EReal) := by
  simp [Ideal.ofBits, Ideal.ieee, -EReal.coe_mul]
  norm_num

theorem lit_fifth : ∃ r : ℝ, Ideal.ofBits .f32 0x3E4CCCCD#32 = (r : EReal) := by
  simp only [Ideal.ofBits, Ideal.ieee]
  exact ⟨_, rfl⟩

theorem lit_low : ∃ r : ℝ, Ideal.ofBits .f32 0xF149F2CA#32 = (r : EReal) := by
  simp only [Ideal.ofBits, Ideal.ieee]
  exact ⟨_, rfl⟩

end Cert.Proof.Soft

end
-- ==== Proof.TileReal.lean ====
/-
  What one trip's operations compute over the extended reals, entry by entry.
-/
module

public import proofs.«01_k».proof.Proof.KernelIdealVals
public import proofs.«01_k».proof.Proof.Soft

@[expose] public section

set_option maxRecDepth 16384

noncomputable section

namespace Cert.Proof.KernelIdeal

open Cert.KernelIdeal Cert.KernelIdeal.Gen
open Idealize.ShloMosaic
open Cert.Proof.Soft

namespace Tile

variable (B : Tile Ideal)

/-- A score, as the sum over the lanes. -/
theorem sc_apply (c : ℕ) (i : Fin 256) (x : Fin 512) : B.sc c (ix2 i x) = ∑ a : Fin 128, B.kch c (ix2 i a) * B.qq (ix2 a x) := by
  pointwise [Tile.sc]

/-- An exponential, of the score less the column's shift. -/
theorem ex_apply (c : ℕ) (m : FVec Ideal S1x512 .f32) (i : Fin 256) (x : Fin 512) :
    B.ex c m (ix2 i x) = Ideal.exp2 (B.sc c (ix2 i x) - m (ix2 0 x)) := by
  pointwise [Tile.ex]
  rfl

/-- The weighted values, as the sum over the chunk. -/
theorem pv_apply (c : ℕ) (m : FVec Ideal S1x512 .f32) (d : Fin 128) (x : Fin 512) :
    B.pv c m (ix2 d x) = ∑ i : Fin 256, B.vch c (ix2 d i) * B.ex c m (ix2 i x) := by
  pointwise [Tile.pv]

/-- The weights eight rows apart, as the sum over the groups. -/
theorem ps_apply (c : ℕ) (m : FVec Ideal S1x512 .f32) (y : Fin 8) (x : Fin 512) :
    B.ps c m (ix2 y x) = ∑ g : Fin 32, B.ex c m (ix2 ⟨8 * g.val + y.val, by omega⟩ x) := by
  pointwise [Tile.ps]
  simp only [mul_comm]

/-- A column maximum, as the largest of the chunk's scores. -/
theorem cmax_apply (c : ℕ) (x : Fin 512) :
    B.cmax c (ix2 0 x) = Finset.univ.fold max (⊥ : EReal) (fun i : Fin 256 => B.sc c (ix2 i x)) := by
  pointwise [Tile.cmax]
  rw [lit_neg_inf]

end Tile

/-- The quotient, entry by entry. -/
theorem quot_apply (acc : FVec Ideal S128x512 .f32) (l : FVec Ideal S8x512 .f32) (d : Fin 128) (x : Fin 512) :
    quot acc l (ix2 d x) = Ideal.div (acc (ix2 d x)) (∑ y : Fin 8, l (ix2 y x)) := by
  pointwise [quot]

/-- The difference of the two components, entry by entry. -/
theorem diff_apply (lam : FVec Ideal S1x1 .f32) (o : FVec Ideal S128x512 .f32) (d : Fin 128) (x : Fin 256) :
    diff lam o (ix2 d x) = o (ix2 d ⟨x.val, by omega⟩) - lam (ix2 0 0) * o (ix2 d ⟨256 + x.val, by omega⟩) := by
  pointwise [diff]

/-- What a trip stores, entry by entry. -/
theorem res_apply (D : FVec Ideal S128x256 .f32) (g : Vec Ideal S1x128 .f32) (y : Fin 256) (e : Fin 128) :
    k0_pay2 D (rms D) g (ix2 y e)
      = D (ix2 e y) * Ideal.rsqrt (Ideal.div (∑ d : Fin 128, D (ix2 d y) * D (ix2 d y)) (Ideal.ofBits .f32 0x43000000#32) + Ideal.ofBits .f32 0x3727C5AC#32)
        * g (ix2 0 e) * Ideal.ofBits .f32 0x3F4CCCCD#32 := by
  pointwise [k0_pay2, rms]

/-- The factor of the second component. -/
theorem lam_apply (v : Vec Ideal S4x64 .f32) :
    k0_pay1 v (ix2 0 0) = Ideal.exp (∑ d : Fin 64, v (ix2 0 d) * v (ix2 1 d)) - Ideal.exp (∑ d : Fin 64, v (ix2 2 d) * v (ix2 3 d))
      + Ideal.ofBits .f32 0x3E4CCCCD#32 := by
  pointwise [k0_pay1]

theorem lane_lt : ∀ a : Fin 128, IntOp.cmpi .slt (BitVec.ofNat 32 a.val) 64#32 = 1 ↔ a.val < 64 := by decide +kernel
theorem lane_ge : ∀ a : Fin 128, IntOp.cmpi .sge (BitVec.ofNat 32 a.val) 64#32 = 1 ↔ 64 ≤ a.val := by decide +kernel

/-- The masked query columns: the first component's lanes in the first half, the second's in the second half. -/
theorem maskedQ_apply (q : Vec Ideal S256x128 .bf16) (a : Fin 128) (x : Fin 512) :
    maskedQ q (ix2 a x) = if h : x.val < 256 then (if a.val < 64 then q (ix2 ⟨x.val, h⟩ a) else (0 : EReal))
      else (if 64 ≤ a.val then q (ix2 ⟨x.val - 256, by omega⟩ a) else (0 : EReal)) := by
  pointwise [maskedQ]
  simp only [Scalar.select, lane_lt, lane_ge]

/-! ## A tile of real numbers -/

/-- The tile's keys, values and query columns are the real numbers `K`, `V`, `Q`. -/
structure Tile.IsReal (B : Tile Ideal) (K V : ℕ → Fin 128 → ℝ) (Q : Fin 128 → Fin 512 → ℝ) : Prop where
  /-- Row `i` of chunk `c` of the keys is row `256 c + i` of `K`. -/
  kch : ∀ c ≤ 64, ∀ (i : Fin 256) (a : Fin 128), B.kch c (ix2 i a) = ((K (256 * c + i.val) a : ℝ) : EReal)
  /-- Column `i` of chunk `c` of the values is row `256 c + i` of `V`. -/
  vch : ∀ c ≤ 64, ∀ (d : Fin 128) (i : Fin 256), B.vch c (ix2 d i) = ((V (256 * c + i.val) d : ℝ) : EReal)
  /-- The query columns. -/
  qq : ∀ (a : Fin 128) (x : Fin 512), B.qq (ix2 a x) = ((Q a x : ℝ) : EReal)

namespace Tile

variable {B : Tile Ideal} {K V : ℕ → Fin 128 → ℝ} {Q : Fin 128 → Fin 512 → ℝ} (hB : B.IsReal K V Q)

/-- The score of row `n` with column `x`. -/
def score (K : ℕ → Fin 128 → ℝ) (Q : Fin 128 → Fin 512 → ℝ) (n : ℕ) (x : Fin 512) : ℝ := ∑ a : Fin 128, K n a * Q a x

include hB

theorem sc_real (c : ℕ) (hc : c ≤ 64) (i : Fin 256) (x : Fin 512) : B.sc c (ix2 i x) = ((score K Q (256 * c + i.val) x : ℝ) : EReal) := by
  rw [sc_apply, score, ← coe_sum]
  refine Finset.sum_congr rfl fun a _ => ?_
  rw [hB.kch c hc, hB.qq, EReal.coe_mul]

theorem cmax_real (c : ℕ) (hc : c ≤ 64) (x : Fin 512) : ∃ M : ℝ, B.cmax c (ix2 0 x) = (M : EReal) := by
  rw [cmax_apply]
  simp only [sc_real hB c hc]
  exact fold_max_real _ ⟨0, Finset.mem_univ _⟩ _

theorem ex_real (c : ℕ) (hc : c ≤ 64) (m : FVec Ideal S1x512 .f32) (i : Fin 256) (x : Fin 512) (M : ℝ) (hm : m (ix2 0 x) = (M : EReal)) :
    B.ex c m (ix2 i x) = ((Real.rpow 2 (score K Q (256 * c + i.val) x - M) : ℝ) : EReal) := by
  rw [ex_apply, sc_real hB c hc, hm, ← EReal.coe_sub, Ideal.exp2_coe]

theorem pv_real (c : ℕ) (hc : c ≤ 64) (m : FVec Ideal S1x512 .f32) (d : Fin 128) (x : Fin 512) (M : ℝ) (hm : m (ix2 0 x) = (M : EReal)) :
    B.pv c m (ix2 d x) = ((∑ i : Fin 256, V (256 * c + i.val) d * Real.rpow 2 (score K Q (256 * c + i.val) x - M) : ℝ) : EReal) := by
  rw [pv_apply, ← coe_sum]
  refine Finset.sum_congr rfl fun i _ => ?_
  rw [hB.vch c hc, ex_real hB c hc m i x M hm, EReal.coe_mul]

theorem ps_real (c : ℕ) (hc : c ≤ 64) (m : FVec Ideal S1x512 .f32) (y : Fin 8) (x : Fin 512) (M : ℝ) (hm : m (ix2 0 x) = (M : EReal)) :
    B.ps c m (ix2 y x) = ((∑ g : Fin 32, Real.rpow 2 (score K Q (256 * c + (8 * g.val + y.val)) x - M) : ℝ) : EReal) := by
  rw [ps_apply, ← coe_sum]
  exact Finset.sum_congr rfl fun g _ => ex_real hB c hc m _ x M hm

/-- The weighted values under the fixed shift, up to chunk `c`. -/
theorem accF_real (d : Fin 128) (x : Fin 512) (M : ℝ) (hM : B.cmax 0 (ix2 0 x) = (M : EReal)) (c : ℕ) (hc : c ≤ 64) :
    B.accF c (ix2 d x) = ((∑ n ∈ Finset.range (256 * (c + 1)), V n d * Real.rpow 2 (score K Q n x - M) : ℝ) : EReal) := by
  induction c with
  | zero => rw [sum_chunk]; simpa [accF] using pv_real hB 0 hc _ d x M hM
  | succ c ih =>
    rw [sum_chunk, EReal.coe_add, ← ih (by omega), ← pv_real hB (c + 1) hc _ d x M hM]
    rfl

/-- The weights under the fixed shift, up to chunk `c`: their eight rows sum to the weights of all the rows. -/
theorem lF_real (x : Fin 512) (M : ℝ) (hM : B.cmax 0 (ix2 0 x) = (M : EReal)) (c : ℕ) (hc : c ≤ 64) :
    ∃ L : Fin 8 → ℝ, (∀ y, B.lF c (ix2 y x) = ((L y : ℝ) : EReal))
      ∧ ∑ y, L y = ∑ n ∈ Finset.range (256 * (c + 1)), Real.rpow 2 (score K Q n x - M) := by
  induction c with
  | zero =>
    refine ⟨_, fun y => ps_real hB 0 hc _ y x M hM, ?_⟩
    rw [sum_groups (fun i => Real.rpow 2 (score K Q (256 * 0 + i) x - M)), sum_chunk]
    simp
  | succ c ih =>
    obtain ⟨L, hL, hs⟩ := ih (by omega)
    refine ⟨fun y => L y + ∑ g : Fin 32, Real.rpow 2 (score K Q (256 * (c + 1) + (8 * g.val + y.val)) x - M), fun y => ?_, ?_⟩
    · rw [EReal.coe_add, ← hL, ← ps_real hB (c + 1) hc _ y x M hM]
      rfl
    · rw [Finset.sum_add_distrib, hs, sum_groups (fun i => Real.rpow 2 (score K Q (256 * (c + 1) + i) x - M)), ← sum_chunk]

/-- The running maximum is real. -/
theorem mR_real (x : Fin 512) (c : ℕ) (hc : c ≤ 65) : ∃ M : ℝ, B.mR c (ix2 0 x) = (M : EReal) := by
  induction c with
  | zero => exact lit_low
  | succ c ih =>
    obtain ⟨M, hM⟩ := ih (by omega)
    obtain ⟨M', hM'⟩ := cmax_real hB c (by omega) x
    refine ⟨max M M', ?_⟩
    have : B.mR (c + 1) (ix2 0 x) = max (B.mR c (ix2 0 x)) (B.cmax c (ix2 0 x)) := rfl
    rw [this, hM, hM']
    exact (EReal.coe_strictMono.monotone.map_max).symm

omit hB in
/-- The factor from one running maximum to the next. -/
theorem al_real (x : Fin 512) (c : ℕ) (M M' : ℝ) (hM : B.mR c (ix2 0 x) = (M : EReal)) (hM' : B.mR (c + 1) (ix2 0 x) = (M' : EReal)) :
    B.al c (ix2 0 x) = ((Real.rpow 2 (M - M') : ℝ) : EReal) := by
  have : B.al c (ix2 0 x) = Ideal.exp2 (B.mR c (ix2 0 x) - B.mR (c + 1) (ix2 0 x)) := rfl
  rw [this, hM, hM', ← EReal.coe_sub, Ideal.exp2_coe]

omit hB in
theorem accR_succ (c : ℕ) (d : Fin 128) (x : Fin 512) :
    B.accR (c + 1) (ix2 d x) = B.accR c (ix2 d x) * B.al c (ix2 0 x) + B.pv c (B.mR (c + 1)) (ix2 d x) := by
  rw [accR]
  pointwise

omit hB in
theorem lR_succ (c : ℕ) (y : Fin 8) (x : Fin 512) :
    B.lR (c + 1) (ix2 y x) = B.lR c (ix2 y x) * B.al c (ix2 0 x) + B.ps c (B.mR (c + 1)) (ix2 y x) := by
  rw [lR]
  pointwise

/-- The weighted values under the running maximum, before chunk `c`. -/
theorem accR_real (d : Fin 128) (x : Fin 512) (c : ℕ) (hc : c ≤ 65) (M : ℝ) (hM : B.mR c (ix2 0 x) = (M : EReal)) :
    B.accR c (ix2 d x) = ((∑ n ∈ Finset.range (256 * c), V n d * Real.rpow 2 (score K Q n x - M) : ℝ) : EReal) := by
  induction c generalizing M with
  | zero =>
    rw [Nat.mul_zero, Finset.sum_range_zero]
    exact Ideal.ofBits_zero_f32
  | succ c ih =>
    obtain ⟨M₀, hM₀⟩ := mR_real hB x c (by omega)
    rw [accR_succ, ih (by omega) M₀ hM₀, al_real x c M₀ M hM₀ hM, pv_real hB c (by omega) _ d x M hM, sum_chunk, ← EReal.coe_mul, ← EReal.coe_add,
      Finset.sum_mul]
    congr 2
    refine Finset.sum_congr rfl fun n _ => ?_
    rw [mul_assoc, two_rpow_add, sub_add_sub_cancel]

/-- The weights under the running maximum, before chunk `c`: their eight rows sum to the weights of all the rows. -/
theorem lR_real (x : Fin 512) (c : ℕ) (hc : c ≤ 65) (M : ℝ) (hM : B.mR c (ix2 0 x) = (M : EReal)) :
    ∃ L : Fin 8 → ℝ, (∀ y, B.lR c (ix2 y x) = ((L y : ℝ) : EReal))
      ∧ ∑ y, L y = ∑ n ∈ Finset.range (256 * c), Real.rpow 2 (score K Q n x - M) := by
  induction c generalizing M with
  | zero => exact ⟨fun _ => 0, fun y => Ideal.ofBits_zero_f32, by simp⟩
  | succ c ih =>
    obtain ⟨M₀, hM₀⟩ := mR_real hB x c (by omega)
    obtain ⟨L, hL, hs⟩ := ih (by omega) M₀ hM₀
    refine ⟨fun y => L y * Real.rpow 2 (M₀ - M) + ∑ g : Fin 32, Real.rpow 2 (score K Q (256 * c + (8 * g.val + y.val)) x - M), fun y => ?_, ?_⟩
    · rw [lR_succ, hL, al_real x c M₀ M hM₀ hM, ps_real hB c (by omega) _ y x M hM, EReal.coe_add, EReal.coe_mul]
    · rw [Finset.sum_add_distrib, ← Finset.sum_mul, hs, sum_groups (fun i => Real.rpow 2 (score K Q (256 * c + i) x - M)), sum_chunk, Finset.sum_mul]
      congr 1
      refine Finset.sum_congr rfl fun n _ => ?_
      rw [two_rpow_add, sub_add_sub_cancel]

omit hB in
/-- The quotient of weighted values by weights, under any real shift, is the average. -/
theorem quot_real (acc : FVec Ideal S128x512 .f32) (l : FVec Ideal S8x512 .f32) (d : Fin 128) (x : Fin 512) (M : ℝ)
    (ha : acc (ix2 d x) = ((∑ n ∈ Finset.range 16640, V n d * Real.rpow 2 (score K Q n x - M) : ℝ) : EReal))
    (hl : ∃ L : Fin 8 → ℝ, (∀ y, l (ix2 y x) = ((L y : ℝ) : EReal)) ∧ ∑ y, L y = ∑ n ∈ Finset.range 16640, Real.rpow 2 (score K Q n x - M)) :
    quot acc l (ix2 d x) = ((wavg 16640 (fun n => Real.log 2 * score K Q n x) (fun n => V n d) : ℝ) : EReal) := by
  obtain ⟨L, hL, hs⟩ := hl
  rw [quot_apply, ha]
  simp only [hL]
  rw [coe_sum, hs, div_real _ _ (ne_of_gt (Finset.sum_pos (fun _ _ => two_rpow_pos _) ⟨0, Finset.mem_range.2 (by norm_num)⟩)),
    wavg_two 16640 (by norm_num) (fun n => score K Q n x) (fun n => V n d)]

/-- What a trip's quotient is: the average of the values weighted by the exponentials of the scores. -/
theorem out_real (d : Fin 128) (x : Fin 512) :
    B.out (ix2 d x) = ((wavg 16640 (fun n => Real.log 2 * score K Q n x) (fun n => V n d) : ℝ) : EReal) := by
  by_cases h : fits (B.accF 64) (B.lF 64) = 1#1
  · rw [out_pos B h]
    obtain ⟨M, hM⟩ := cmax_real hB 0 (by norm_num) x
    exact quot_real _ _ d x M (accF_real hB d x M hM 64 le_rfl) (lF_real hB x M hM 64 le_rfl)
  · rw [out_neg B h]
    obtain ⟨M, hM⟩ := mR_real hB x 65 le_rfl
    exact quot_real _ _ d x M (accR_real hB d x 65 le_rfl M hM) (lR_real hB x 65 le_rfl M hM)

end Tile

end Cert.Proof.KernelIdeal

end
-- ==== Proof.ReferenceReal.lean ====
/-
  What the reference computes over the extended reals, entry by entry, its stages named.
-/
module

public import proofs.«01_k».proof.Proof.Soft
public import proofs.«01_k».proof.Proof.Gen.ReferenceIdeal.Run

@[expose] public section

set_option maxRecDepth 16384

noncomputable section

namespace Cert.Proof.Reference

open Cert.ReferenceIdeal Cert.ReferenceIdeal.Gen
open Idealize.ShloMosaic Idealize.ShloMosaic.TcCoe Idealize.SL.Sem
open Cert.Proof.Soft

/-- The keys: the context's rows, then the others. -/
def keys (kc : FVec Ideal S256x1024 .bf16) (k : FVec Ideal S16384x1024 .bf16) : FVec Ideal S16640x1024 .f32 :=
  concatenate S16640x1024 0 [⟨S256x1024, extf .f32 kc bitsLt_bf16_f32⟩, ⟨S16384x1024, extf .f32 k bitsLt_bf16_f32⟩]
    concatenates_S256x1024_S16384x1024_S16640x1024_d0

/-- The values: the context's columns as rows, then the others'. -/
def vals (vtc : FVec Ideal S1024x256 .bf16) (vt : FVec Ideal S1024x16384 .bf16) : FVec Ideal S16640x1024 .f32 :=
  concatenate S16640x1024 0 [⟨S256x1024, transpose S256x1024 [1, 0] (extf .f32 vtc bitsLt_bf16_f32) transposes_S1024x256_S256x1024_1_0⟩,
    ⟨S16384x1024, transpose S16384x1024 [1, 0] (extf .f32 vt bitsLt_bf16_f32) transposes_S1024x16384_S16384x1024_1_0⟩]
    concatenates_S256x1024_S16384x1024_S16640x1024_d0

/-- The scores, scaled. -/
def scores (q : FVec Ideal S16384x1024 .f32) (K : FVec Ideal S16640x1024 .f32) : FVec Ideal S8x2x16384x16640 .f32 :=
  mulf (Host.dotGeneral dot_S16384x8x2x64_S16640x8x2x64_S8x2x16384x16640_3_3_0_0_12_12 none
      (shapeCast S16384x8x2x64 q shapeCasts_S16384x1024_S16384x8x2x64) (shapeCast S16640x8x2x64 K shapeCasts_S16640x1024_S16640x8x2x64))
    (broadcastInDim S8x2x16384x16640 ![] bcast_S_S8x2x16384x16640 (constant S_ .f32 0x3E000000#32))

/-- The largest score of a row. -/
def top (s : FVec Ideal S8x2x16384x16640 .f32) : FVec Ideal S8x2x16384 .f32 :=
  maximumf (broadcastInDim S8x2x16384 ![] bcast_S_S8x2x16384 (constant S_ .f32 0xFF800000#32))
    (Host.reduce FloatOps.maximumf s (constant S_ .f32 0xFF800000#32) reducesTo_S8x2x16384x16640_S8x2x16384_d3 h_S_)

/-- A number per row, spread along the row. -/
def spread (x : FVec Ideal S8x2x16384 .f32) : FVec Ideal S8x2x16384x16640 .f32 :=
  broadcastInDim S8x2x16384x16640 ![0, 1, 2, 3] bcast_S8x2x16384x1_S8x2x16384x16640_0_1_2_3
    (broadcastInDim S8x2x16384x1 ![0, 1, 2] bcast_S8x2x16384_S8x2x16384x1_0_1_2 x)

/-- The exponentials of the scores less the row's largest. -/
def expo (s : FVec Ideal S8x2x16384x16640 .f32) : FVec Ideal S8x2x16384x16640 .f32 := Host.exp (subf s (spread (top s)))

/-- The weights. -/
def weights (s : FVec Ideal S8x2x16384x16640 .f32) : FVec Ideal S8x2x16384x16640 .f32 :=
  Host.divf (expo s) (spread (Host.reduceAdd (expo s) (constant S_ .f32 0x00000000#32) reducesTo_S8x2x16384x16640_S8x2x16384_d3 h_S_))

/-- The factor of the second component. -/
def lam (dl : FVec Ideal S1x4x64 .f32) : FVec Ideal S_ .f32 :=
  addf (subf
      (Host.exp (Host.reduceAdd (mulf
        (shapeCast S64 (extractStridedSlice S1x64 ![0, 0] (shapeCast S4x64 dl shapeCasts_S1x4x64_S4x64) slices_S4x64_S1x64_0_0) shapeCasts_S1x64_S64)
        (shapeCast S64 (extractStridedSlice S1x64 ![1, 0] (shapeCast S4x64 dl shapeCasts_S1x4x64_S4x64) slices_S4x64_S1x64_1_0) shapeCasts_S1x64_S64))
        (constant S_ .f32 0x00000000#32) reducesTo_S64_S_d0 h_S_))
      (Host.exp (Host.reduceAdd (mulf
        (shapeCast S64 (extractStridedSlice S1x64 ![2, 0] (shapeCast S4x64 dl shapeCasts_S1x4x64_S4x64) slices_S4x64_S1x64_2_0) shapeCasts_S1x64_S64)
        (shapeCast S64 (extractStridedSlice S1x64 ![3, 0] (shapeCast S4x64 dl shapeCasts_S1x4x64_S4x64) slices_S4x64_S1x64_3_0) shapeCasts_S1x64_S64))
        (constant S_ .f32 0x00000000#32) reducesTo_S64_S_d0 h_S_)))
    (constant S_ .f32 0x3E4CCCCD#32)

/-- The first component's weights less the factor times the second's. -/
def mixed (w : FVec Ideal S8x2x16384x16640 .f32) (l : FVec Ideal S_ .f32) : FVec Ideal S8x16384x16640 .f32 :=
  subf (shapeCast S8x16384x16640 (extractStridedSlice S8x1x16384x16640 ![0, 0, 0, 0] w slices_S8x2x16384x16640_S8x1x16384x16640_0_0_0_0)
      shapeCasts_S8x1x16384x16640_S8x16384x16640)
    (mulf (broadcastInDim S8x16384x16640 ![] bcast_S_S8x16384x16640 l)
      (shapeCast S8x16384x16640 (extractStridedSlice S8x1x16384x16640 ![0, 1, 0, 0] w slices_S8x2x16384x16640_S8x1x16384x16640_0_1_0_0)
        shapeCasts_S8x1x16384x16640_S8x16384x16640))

/-- The values weighted. -/
def attended (V : FVec Ideal S16640x1024 .f32) (a : FVec Ideal S8x16384x16640 .f32) : FVec Ideal S16384x8x128 .f32 :=
  transpose S16384x8x128 [2, 0, 1] (Host.dotGeneral dot_S16640x8x128_S8x16384x16640_S8x128x16384_0_2_2_1_1_0 none
    (shapeCast S16640x8x128 V shapeCasts_S16640x1024_S16640x8x128) a) transposes_S8x128x16384_S16384x8x128_2_0_1

/-- The result: each head's row normalised, scaled. -/
def normed (o : FVec Ideal S16384x8x128 .f32) (g : FVec Ideal S1x128 .f32) : FVec Ideal S16384x1024 .bf16 :=
  truncf .bf16 (shapeCast S16384x1024 (mulf (mulf (mulf o
    (broadcastInDim S16384x8x128 ![0, 1, 2] bcast_S16384x8x1_S16384x8x128_0_1_2 (Host.rsqrt (addf (Host.divf
      (broadcastInDim S16384x8x1 ![0, 1] bcast_S16384x8_S16384x8x1_0_1
        (Host.reduceAdd (mulf o o) (constant S_ .f32 0x00000000#32) reducesTo_S16384x8x128_S16384x8_d2 h_S_))
      (broadcastInDim S16384x8x1 ![] bcast_S_S16384x8x1 (constant S_ .f32 0x43000000#32)))
      (broadcastInDim S16384x8x1 ![] bcast_S_S16384x8x1 (constant S_ .f32 0x3727C5AC#32))))))
    (broadcastInDim S16384x8x128 ![0, 1, 2] bcast_S1x1x128_S16384x8x128_0_1_2 (broadcastInDim S1x1x128 ![2] bcast_S128_S1x1x128_2
      (shapeCast S128 g shapeCasts_S1x128_S128))))
    (broadcastInDim S16384x8x128 ![] bcast_S_S16384x8x128 (constant S_ .f32 0x3F4CCCCD#32))) shapeCasts_S16384x8x128_S16384x1024) bitsLt_bf16_f32

/-- The reference's result is its stages in order. -/
theorem result_eq (m : (ℓ : Loc nD τ sig) → Buf (Elt Ideal) ℓ) (c : Dev nD) :
    Value.res_main_v68 m c = normed (attended (vals (m ((c.tc : Thread nD τ).loc main_arg3)) (m ((c.tc : Thread nD τ).loc main_arg4)))
      (mixed (weights (scores (m ((c.tc : Thread nD τ).loc main_arg0)) (keys (m ((c.tc : Thread nD τ).loc main_arg1)) (m ((c.tc : Thread nD τ).loc main_arg2)))))
        (lam (m ((c.tc : Thread nD τ).loc main_arg5))))) (m ((c.tc : Thread nD τ).loc main_arg6)) := by
  unfold Value.res_main_v68
  rfl

/-! ## Entry by entry -/

theorem keys_apply (kc : FVec Ideal S256x1024 .bf16) (k : FVec Ideal S16384x1024 .bf16) (n : Fin 16640) (a : Fin 1024) :
    keys kc k (ix2 n a) = if h : n.val < 256 then kc (ix2 ⟨n.val, h⟩ a) else k (ix2 ⟨n.val - 256, by omega⟩ a) := by
  pointwise [keys]

theorem vals_apply (vtc : FVec Ideal S1024x256 .bf16) (vt : FVec Ideal S1024x16384 .bf16) (n : Fin 16640) (a : Fin 1024) :
    vals vtc vt (ix2 n a) = if h : n.val < 256 then vtc (ix2 a ⟨n.val, h⟩) else vt (ix2 a ⟨n.val - 256, by omega⟩) := by
  pointwise [vals]

theorem scores_apply (q : FVec Ideal S16384x1024 .f32) (K : FVec Ideal S16640x1024 .f32) (h : Fin 8) (j : Fin 2) (r : Fin 16384) (n : Fin 16640) :
    scores q K (ix4 h j r n) = (∑ d : Fin 64, q (ix2 r ⟨128 * h.val + 64 * j.val + d.val, by omega⟩) * K (ix2 n ⟨128 * h.val + 64 * j.val + d.val, by omega⟩))
      * Ideal.ofBits .f32 0x3E000000#32 := by
  pointwise [scores]
  simp only [Nat.mul_comm 128, Nat.mul_comm 64]

/-- The host's maximum along the last of four axes, of real numbers, is real. -/
theorem hostMax_real {n0 n1 n2 n3 : ℕ} {t u : Shape} (x : (⟨4, ![n0, n1, n2, n3]⟩ : Shape).Idx → EReal) (init : u.Idx → EReal)
    (h : (⟨4, ![n0, n1, n2, n3]⟩ : Shape).ReducesTo [3] t) (hu : 0 < u.numel) (j : t.Idx) (hn : 0 < n3)
    (hi : init (Shape.Idx.first hu) = ⊥) (hx : ∀ i, ∃ r : ℝ, x i = (r : EReal)) :
    ∃ M : ℝ, Host.reduce (FloatOps.maximumf (F := Ideal) (φ := .f32)) x init h hu j = (M : EReal) := by
  choose f hf using hx
  obtain rfl : x = fun i => ((f i : ℝ) : EReal) := funext hf
  rw [Host.reduce_eq_fold, hi, Shape.ReducesTo.fold_fiber_r4_a3]
  exact fold_max_real _ ⟨⟨0, hn⟩, Finset.mem_univ _⟩ _

/-- The largest of a row of real scores is real. -/
theorem top_real (s : FVec Ideal S8x2x16384x16640 .f32) (hs : ∀ i, ∃ r : ℝ, s i = (r : EReal)) (i : S8x2x16384.Idx) :
    ∃ M : ℝ, top s i = (M : EReal) := by
  obtain ⟨M, hM⟩ := hostMax_real s (constant (F := Ideal) S_ .f32 0xFF800000#32) reducesTo_S8x2x16384x16640_S8x2x16384_d3 h_S_ i (by norm_num) lit_neg_inf hs
  refine ⟨M, ?_⟩
  unfold top
  rw [maximumf_apply, hM]
  show max (Ideal.ofBits .f32 0xFF800000#32) (M : EReal) = _
  rw [lit_neg_inf]
  exact max_eq_right bot_le

theorem expo_apply (s : FVec Ideal S8x2x16384x16640 .f32) (h : Fin 8) (j : Fin 2) (r : Fin 16384) (n : Fin 16640) :
    expo s (ix4 h j r n) = Ideal.exp (s (ix4 h j r n) - top s (ix3 h j r)) := by
  pointwise [expo, spread]

theorem weights_apply (s : FVec Ideal S8x2x16384x16640 .f32) (h : Fin 8) (j : Fin 2) (r : Fin 16384) (n : Fin 16640) :
    weights s (ix4 h j r n) = Ideal.div (expo s (ix4 h j r n)) (∑ n' : Fin 16640, expo s (ix4 h j r n')) := by
  pointwise [weights, spread]

theorem lam_apply (dl : FVec Ideal S1x4x64 .f32) (i : S_.Idx) :
    lam dl i = Ideal.exp (∑ d : Fin 64, dl (ix3 0 0 d) * dl (ix3 0 1 d)) - Ideal.exp (∑ d : Fin 64, dl (ix3 0 2 d) * dl (ix3 0 3 d))
      + Ideal.ofBits .f32 0x3E4CCCCD#32 := by
  pointwise [lam]

theorem mixed_apply (w : FVec Ideal S8x2x16384x16640 .f32) (l : FVec Ideal S_ .f32) (h : Fin 8) (r : Fin 16384) (n : Fin 16640) :
    mixed w l (ix3 h r n) = w (ix4 h 0 r n) - l ix0 * w (ix4 h 1 r n) := by
  pointwise [mixed]

theorem attended_apply (V : FVec Ideal S16640x1024 .f32) (a : FVec Ideal S8x16384x16640 .f32) (r : Fin 16384) (h : Fin 8) (e : Fin 128) :
    attended V a (ix3 r h e) = ∑ n : Fin 16640, V (ix2 n ⟨128 * h.val + e.val, by omega⟩) * a (ix3 h r n) := by
  pointwise [attended]
  simp only [Nat.mul_comm 128]

theorem normed_apply (o : FVec Ideal S16384x8x128 .f32) (g : FVec Ideal S1x128 .f32) (r : Fin 16384) (c : Fin 1024) :
    normed o g (ix2 r c) = o (ix3 r ⟨c.val / 128, by omega⟩ ⟨c.val % 128, by omega⟩)
        * Ideal.rsqrt (Ideal.div (∑ d : Fin 128, o (ix3 r ⟨c.val / 128, by omega⟩ d) * o (ix3 r ⟨c.val / 128, by omega⟩ d)) (Ideal.ofBits .f32 0x43000000#32)
          + Ideal.ofBits .f32 0x3727C5AC#32)
        * g (ix2 0 ⟨c.val % 128, by omega⟩) * Ideal.ofBits .f32 0x3F4CCCCD#32 := by
  pointwise [normed]

/-! ## The reference on real arguments -/

/-- The weights of real scores. -/
theorem weights_real (s : FVec Ideal S8x2x16384x16640 .f32) (S : Fin 8 → Fin 2 → Fin 16384 → ℕ → ℝ)
    (hs : ∀ h j r (n : Fin 16640), s (ix4 h j r n) = ((S h j r n.val : ℝ) : EReal)) (h : Fin 8) (j : Fin 2) (r : Fin 16384) :
    ∃ M : ℝ, ∀ n : Fin 16640, weights s (ix4 h j r n)
      = ((Real.exp (S h j r n.val - M) / ∑ k ∈ Finset.range 16640, Real.exp (S h j r k - M) : ℝ) : EReal) := by
  have hs' : ∀ i, ∃ x : ℝ, s i = (x : EReal) := fun i => ⟨S (i 0) (i 1) (i 2) (i 3).val, (congrArg s (eq_ix4 i)).trans (hs _ _ _ _)⟩
  obtain ⟨M, hM⟩ := top_real s hs' (ix3 h j r)
  have he : ∀ n : Fin 16640, expo s (ix4 h j r n) = ((Real.exp (S h j r n.val - M) : ℝ) : EReal) := fun n => by
    rw [expo_apply, hs, hM, ← EReal.coe_sub, Ideal.exp_coe]
  refine ⟨M, fun n => ?_⟩
  rw [weights_apply]
  simp only [he]
  rw [coe_sum, Fin.sum_univ_eq_sum_range (fun k => Real.exp (S h j r k - M)) 16640,
    div_real _ _ (ne_of_gt (sum_exp_pos 16640 (by norm_num) fun k => S h j r k - M))]

/-- The attended values of real arguments: the difference of the two components' averages. -/
theorem attended_real (s : FVec Ideal S8x2x16384x16640 .f32) (S : Fin 8 → Fin 2 → Fin 16384 → ℕ → ℝ)
    (hs : ∀ h j r (n : Fin 16640), s (ix4 h j r n) = ((S h j r n.val : ℝ) : EReal))
    (V : FVec Ideal S16640x1024 .f32) (v : ℕ → Fin 1024 → ℝ) (hV : ∀ (n : Fin 16640) a, V (ix2 n a) = ((v n.val a : ℝ) : EReal))
    (l : FVec Ideal S_ .f32) (L : ℝ) (hl : l ix0 = (L : EReal)) (r : Fin 16384) (h : Fin 8) (e : Fin 128) :
    attended V (mixed (weights s) l) (ix3 r h e)
      = ((wavg 16640 (S h 0 r) (fun n => v n ⟨128 * h.val + e.val, by omega⟩)
          - L * wavg 16640 (S h 1 r) (fun n => v n ⟨128 * h.val + e.val, by omega⟩) : ℝ) : EReal) := by
  obtain ⟨M₀, h₀⟩ := weights_real s S hs h 0 r
  obtain ⟨M₁, h₁⟩ := weights_real s S hs h 1 r
  rw [attended_apply, ← wavg_shift 16640 (by norm_num) _ _ M₀, ← wavg_shift 16640 (by norm_num) (S h 1 r) _ M₁, Finset.mul_sum, ← Finset.sum_sub_distrib,
    ← Fin.sum_univ_eq_sum_range (fun n => v n ⟨128 * h.val + e.val, by omega⟩ * (Real.exp (S h 0 r n - M₀) / ∑ k ∈ Finset.range 16640, Real.exp (S h 0 r k - M₀))
      - L * (v n ⟨128 * h.val + e.val, by omega⟩ * (Real.exp (S h 1 r n - M₁) / ∑ k ∈ Finset.range 16640, Real.exp (S h 1 r k - M₁)))) 16640, ← coe_sum]
  refine Finset.sum_congr rfl fun n _ => ?_
  rw [mixed_apply, h₀, h₁, hV, hl, ← EReal.coe_mul, ← EReal.coe_sub, ← EReal.coe_mul, mul_sub, mul_left_comm]

end Cert.Proof.Reference

end
-- ==== Proof.Attention.lean ====
/-
  On real arguments a block of the kernel's result is a block of the reference's.
-/
module

public import proofs.«01_k».proof.Proof.Blocks
public import proofs.«01_k».proof.Proof.TileReal
public import proofs.«01_k».proof.Proof.ReferenceReal

@[expose] public section

set_option maxRecDepth 16384

noncomputable section

namespace Cert.Proof.KernelIdeal

open Cert.KernelIdeal Cert.KernelIdeal.Gen
open Idealize.ShloMosaic Idealize.ShloMosaic.TcCoe
open Cert.Proof.Soft
open Cert.Proof.Reference (keys vals scores weights mixed attended normed)

/-- Every entry is a real number. -/
def AllReal {s : Shape} {p : FTy} (x : FVec Ideal s p) : Prop := ∀ i, ∃ r : ℝ, x i = ((r : ℝ) : EReal)

theorem AllReal.coe {s : Shape} {p : FTy} {x : FVec Ideal s p} (h : AllReal x) (i : s.Idx) : x i = ((EReal.toReal (x i) : ℝ) : EReal) := by
  obtain ⟨r, hr⟩ := h i
  rw [hr, EReal.toReal_coe]

/-! ## The arguments as real numbers -/

/-- All the keys, the context's first. -/
def keyR (kc : FVec Ideal S256x1024 .bf16) (k : FVec Ideal S16384x1024 .bf16) (n : ℕ) (a : Fin 1024) : ℝ :=
  if h : n < 16640 then EReal.toReal (keys kc k (ix2 ⟨n, h⟩ a)) else 0

/-- All the values, the context's first. -/
def valR (vtc : FVec Ideal S1024x256 .bf16) (vt : FVec Ideal S1024x16384 .bf16) (n : ℕ) (a : Fin 1024) : ℝ :=
  if h : n < 16640 then EReal.toReal (vals vtc vt (ix2 ⟨n, h⟩ a)) else 0

/-- The queries. -/
def qryR (q : FVec Ideal S16384x1024 .f32) (r : Fin 16384) (a : Fin 1024) : ℝ := EReal.toReal (q (ix2 r a))

/-- The score of head `h`, component `j`, query row `r`, key row `n`. -/
def scoreR (q : FVec Ideal S16384x1024 .f32) (kc : FVec Ideal S256x1024 .bf16) (k : FVec Ideal S16384x1024 .bf16)
    (h : Fin 8) (j : Fin 2) (r : Fin 16384) (n : ℕ) : ℝ :=
  (∑ d : Fin 64, qryR q r ⟨128 * h.val + 64 * j.val + d.val, by omega⟩ * keyR kc k n ⟨128 * h.val + 64 * j.val + d.val, by omega⟩) * (1 / 8)

section

variable {a0 : FVec Ideal S16384x1024 .f32} {a1 : FVec Ideal S256x1024 .bf16} {a2 : FVec Ideal S16384x1024 .bf16}
  {a3 : FVec Ideal S1024x256 .bf16} {a4 : FVec Ideal S1024x16384 .bf16} {a5 : FVec Ideal S1x4x64 .f32}

theorem keys_real (h1 : AllReal a1) (h2 : AllReal a2) (n : Fin 16640) (a : Fin 1024) : keys a1 a2 (ix2 n a) = ((keyR a1 a2 n.val a : ℝ) : EReal) := by
  rw [keyR, dif_pos n.isLt, Reference.keys_apply]
  split
  · exact h1.coe _
  · exact h2.coe _

theorem vals_real (h3 : AllReal a3) (h4 : AllReal a4) (n : Fin 16640) (a : Fin 1024) : vals a3 a4 (ix2 n a) = ((valR a3 a4 n.val a : ℝ) : EReal) := by
  rw [valR, dif_pos n.isLt, Reference.vals_apply]
  split
  · exact h3.coe _
  · exact h4.coe _

theorem scores_real (h0 : AllReal a0) (h1 : AllReal a1) (h2 : AllReal a2) (h : Fin 8) (j : Fin 2) (r : Fin 16384) (n : Fin 16640) :
    scores a0 (keys a1 a2) (ix4 h j r n) = ((scoreR a0 a1 a2 h j r n.val : ℝ) : EReal) := by
  rw [Reference.scores_apply, scoreR, EReal.coe_mul, lit_eighth, ← coe_sum]
  congr 1
  refine Finset.sum_congr rfl fun d _ => ?_
  rw [keys_real h1 h2, h0.coe, EReal.coe_mul]
  rfl

/-- The mixing factor of real parameters is real. -/
theorem lam_real (h5 : AllReal a5) : ∃ L : ℝ, Reference.lam a5 ix0 = (L : EReal) := by
  obtain ⟨f, hf⟩ := lit_fifth
  have hs : ∀ y z : Fin 4, ∑ d : Fin 64, a5 (ix3 0 y d) * a5 (ix3 0 z d)
      = ((∑ d : Fin 64, EReal.toReal (a5 (ix3 0 y d)) * EReal.toReal (a5 (ix3 0 z d)) : ℝ) : EReal) := fun y z => by
    rw [← coe_sum]
    refine Finset.sum_congr rfl fun d _ => ?_
    rw [EReal.coe_mul, ← h5.coe, ← h5.coe]
  refine ⟨Real.exp (∑ d : Fin 64, EReal.toReal (a5 (ix3 0 0 d)) * EReal.toReal (a5 (ix3 0 1 d)))
    - Real.exp (∑ d : Fin 64, EReal.toReal (a5 (ix3 0 2 d)) * EReal.toReal (a5 (ix3 0 3 d))) + f, ?_⟩
  rw [Reference.lam_apply, hs, hs, hf, Ideal.exp_coe, Ideal.exp_coe, ← EReal.coe_sub, ← EReal.coe_add]

end

/-! ## The operands of a trip -/

variable (m : (ℓ : Loc nD τ sig) → Buf (Elt Ideal) ℓ) (c : Dev nD)

/-- The arguments, by position. -/
abbrev arg0 : FVec Ideal S16384x1024 .f32 := m ((c : Thread nD τ).loc main_arg0)
abbrev arg1 : FVec Ideal S256x1024 .bf16 := m ((c : Thread nD τ).loc main_arg1)
abbrev arg2 : FVec Ideal S16384x1024 .bf16 := m ((c : Thread nD τ).loc main_arg2)
abbrev arg3 : FVec Ideal S1024x256 .bf16 := m ((c : Thread nD τ).loc main_arg3)
abbrev arg4 : FVec Ideal S1024x16384 .bf16 := m ((c : Thread nD τ).loc main_arg4)
abbrev arg5 : FVec Ideal S1x4x64 .f32 := m ((c : Thread nD τ).loc main_arg5)
abbrev arg6 : FVec Ideal S1x128 .f32 := m ((c : Thread nD τ).loc main_arg6)

/-- The arguments the precondition speaks of are real. -/
structure ArgsReal : Prop where
  a0 : AllReal (arg0 m c)
  a1 : AllReal (arg1 m c)
  a2 : AllReal (arg2 m c)
  a3 : AllReal (arg3 m c)
  a4 : AllReal (arg4 m c)
  a5 : AllReal (arg5 m c)

/-- A block has four trips. -/
theorem trip_lt (k : Fin k0_t1_loop.trips) : k.val < 4 := k.isLt.trans_eq trips_eq

/-- The row of the array that row `y` of trip `k` at point `t` is. -/
def rowOf (t : Fin cfg0.N) (k : Fin k0_t1_loop.trips) (y : Fin 256) : Fin 16384 :=
  ⟨1024 * (t.val % 16) + (256 * k.val + y.val), by have := trip_lt k; omega⟩

/-- The queries of a point: the row block's rows and the head's lanes, scaled. -/
theorem q_apply (t : Fin cfg0.N) (i : Fin 1024) (a : Fin 128) :
    (insAt m c t).q (ix2 i a) = arg0 m c (ix2 ⟨1024 * (t.val % 16) + i.val, by omega⟩ ⟨128 * (headOf t).val + a.val, by omega⟩)
      * Ideal.div (Ideal.ofBits .f32 0x3E000000#32) (Ideal.log (Ideal.ofBits .f32 0x40000000#32)) := by
  have e : (insAt m c t).q (ix2 i a) = V m c main_v4 ((win0_0.rect t).emb (ix2 i a)) := rfl
  have hi : (win0_0.rect t).emb (ix2 i a) = (ix2 ⟨1024 * (t.val % 16) + i.val, by omega⟩ ⟨128 * (headOf t).val + a.val, by omega⟩ : S16384x1024.Idx) := by
    obtain ⟨h0, h1⟩ := index0 t
    funext b
    apply Fin.ext
    match b with
    | 0 => show win0_0.index t 0 * 1024 + 1 * i.val = 1024 * (t.val % 16) + i.val; omega
    | 1 => show win0_0.index t 1 * 128 + 1 * a.val = 128 * (t.val / 16) + a.val; omega
  rw [e, V_main_v4, hi]
  pointwise

/-- The scaled query. -/
def qs (t : Fin cfg0.N) (k : Fin k0_t1_loop.trips) (y : Fin 256) (a : Fin 128) : ℝ :=
  qryR (arg0 m c) (rowOf t k y) ⟨128 * (headOf t).val + a.val, by omega⟩ * (1 / 8 / Real.log 2)

/-- The masked query columns of a trip. -/
def qm (t : Fin cfg0.N) (k : Fin k0_t1_loop.trips) (a : Fin 128) (x : Fin 512) : ℝ :=
  if h : x.val < 256 then (if a.val < 64 then qs m c t k ⟨x.val, h⟩ a else 0)
  else (if 64 ≤ a.val then qs m c t k ⟨x.val - 256, by omega⟩ a else 0)

theorem off1_apply : ∀ k : Fin k0_t1_loop.trips, k0_off1 k 0 = 256 * k.val ∧ k0_off1 k 1 = 0 := by decide +kernel

/-- The query rows of a trip, read from the point's. -/
theorem ld_q_apply (x : Vec Ideal S1024x128 .bf16) (k : Fin k0_t1_loop.trips) (y : Fin 256) (a : Fin 128) :
    View.ld x (Rect.unit (s := S1024x128) (k0_off1 k) S256x128.size (k0_off1_inb k)) (ix2 y a)
      = x (ix2 ⟨256 * k.val + y.val, by have := trip_lt k; omega⟩ a) := by
  show x ((Rect.unit (s := S1024x128) (k0_off1 k) S256x128.size (k0_off1_inb k)).emb (ix2 y a)) = _
  congr 1
  obtain ⟨h0, h1⟩ := off1_apply k
  funext b
  apply Fin.ext
  match b with
  | 0 => show k0_off1 k 0 + 1 * y.val = 256 * k.val + y.val; omega
  | 1 => show k0_off1 k 1 + 1 * a.val = a.val; omega

theorem log_two_ne : Real.log 2 ≠ 0 := ne_of_gt (Real.log_pos one_lt_two)

theorem scale_real : Ideal.div (Ideal.ofBits .f32 0x3E000000#32) (Ideal.log (Ideal.ofBits .f32 0x40000000#32)) = ((1 / 8 / Real.log 2 : ℝ) : EReal) := by
  rw [lit_eighth, lit_two, Ideal.log_coe, if_neg (by norm_num), div_real _ _ log_two_ne]

variable {m c}

/-- A trip's scaled query is real. -/
theorem qs_real (hr : ArgsReal m c) (t : Fin cfg0.N) (k : Fin k0_t1_loop.trips) (y : Fin 256) (a : Fin 128) :
    View.ld (insAt m c t).q (Rect.unit (s := S1024x128) (k0_off1 k) S256x128.size (k0_off1_inb k)) (ix2 y a) = ((qs m c t k y a : ℝ) : EReal) := by
  rw [ld_q_apply, q_apply, scale_real, qs, EReal.coe_mul, hr.a0.coe]
  rfl

theorem ofs_key (c : ℕ) (hc : c < 64) : ∀ a, (![256 * c, 0] : Fin 2 → ℕ) a + S256x128.size a ≤ S16384x128.size a := fun a => match a with
  | 0 => by show 256 * c + 256 ≤ 16384; omega
  | 1 => by show 0 + 128 ≤ 128; omega

theorem ofs_val (c : ℕ) (hc : c < 64) : ∀ a, (![0, 256 * c] : Fin 2 → ℕ) a + S128x256.size a ≤ S128x16384.size a := fun a => match a with
  | 0 => by show 0 + 128 ≤ 128; omega
  | 1 => by show 256 * c + 256 ≤ 16384; omega

/-- Chunk `j` of a point's keys: rows of all the keys. -/
theorem kch_keys (t : Fin cfg0.N) (k : Fin k0_t1_loop.trips) (j : ℕ) (hj : j ≤ 64) (i : Fin 256) (a : Fin 128) :
    ((insAt m c t).tile k).kch j (ix2 i a) = keys (arg1 m c) (arg2 m c) (ix2 ⟨256 * j + i.val, by omega⟩ ⟨128 * (headOf t).val + a.val, by omega⟩) := by
  rw [Reference.keys_apply]
  cases j with
  | zero =>
    rw [dif_pos (show 256 * 0 + i.val < 256 by omega)]
    refine (kc_apply m c t i a).trans (congrArg (arg1 m c) (congrArg (fun z => ix2 z _) (Fin.ext ?_)))
    show i.val = 256 * 0 + i.val
    omega
  | succ j =>
    rw [dif_neg (show ¬ 256 * (j + 1) + i.val < 256 by omega), Tile.kch, dif_pos (ofs_key j (by omega))]
    have e : View.ld (insAt m c t).k (Rect.unit (s := S16384x128) ![256 * j, 0] S256x128.size (ofs_key j (by omega))) (ix2 i a)
        = (insAt m c t).k (ix2 ⟨256 * j + i.val, by omega⟩ a) := by
      show (insAt m c t).k ((Rect.unit (s := S16384x128) ![256 * j, 0] S256x128.size (ofs_key j (by omega))).emb (ix2 i a)) = _
      congr 1
      funext b
      apply Fin.ext
      match b with
      | 0 => show 256 * j + 1 * i.val = 256 * j + i.val; omega
      | 1 => show 0 + 1 * a.val = a.val; omega
    refine e.trans ((k_apply m c t _ a).trans (congrArg (arg2 m c) (congrArg (fun z => ix2 z _) (Fin.ext ?_))))
    show 256 * j + i.val = 256 * (j + 1) + i.val - 256
    omega

/-- Chunk `j` of a point's values: rows of all the values. -/
theorem vch_vals (t : Fin cfg0.N) (k : Fin k0_t1_loop.trips) (j : ℕ) (hj : j ≤ 64) (d : Fin 128) (i : Fin 256) :
    ((insAt m c t).tile k).vch j (ix2 d i) = vals (arg3 m c) (arg4 m c) (ix2 ⟨256 * j + i.val, by omega⟩ ⟨128 * (headOf t).val + d.val, by omega⟩) := by
  rw [Reference.vals_apply]
  cases j with
  | zero =>
    rw [dif_pos (show 256 * 0 + i.val < 256 by omega)]
    refine (vtc_apply m c t d i).trans (congrArg (arg3 m c) (congrArg (fun z => ix2 _ z) (Fin.ext ?_)))
    show i.val = 256 * 0 + i.val
    omega
  | succ j =>
    rw [dif_neg (show ¬ 256 * (j + 1) + i.val < 256 by omega), Tile.vch, dif_pos (ofs_val j (by omega))]
    have e : View.ld (insAt m c t).vt (Rect.unit (s := S128x16384) ![0, 256 * j] S128x256.size (ofs_val j (by omega))) (ix2 d i)
        = (insAt m c t).vt (ix2 d ⟨256 * j + i.val, by omega⟩) := by
      show (insAt m c t).vt ((Rect.unit (s := S128x16384) ![0, 256 * j] S128x256.size (ofs_val j (by omega))).emb (ix2 d i)) = _
      congr 1
      funext b
      apply Fin.ext
      match b with
      | 0 => show 0 + 1 * d.val = d.val; omega
      | 1 => show 256 * j + 1 * i.val = 256 * j + i.val; omega
    refine e.trans ((vt_apply m c t d _).trans (congrArg (arg4 m c) (congrArg (fun z => ix2 _ z) (Fin.ext ?_))))
    show 256 * j + i.val = 256 * (j + 1) + i.val - 256
    omega

/-- A trip's tile is real. -/
theorem tile_isReal (hr : ArgsReal m c) (t : Fin cfg0.N) (k : Fin k0_t1_loop.trips) :
    ((insAt m c t).tile k).IsReal (fun n a => keyR (arg1 m c) (arg2 m c) n ⟨128 * (headOf t).val + a.val, by omega⟩)
      (fun n d => valR (arg3 m c) (arg4 m c) n ⟨128 * (headOf t).val + d.val, by omega⟩) (qm m c t k) where
  kch j hj i a := (kch_keys t k j hj i a).trans (keys_real hr.a1 hr.a2 _ _)
  vch j hj d i := (vch_vals t k j hj d i).trans (vals_real hr.a3 hr.a4 _ _)
  qq a x := by
    refine (maskedQ_apply _ a x).trans ?_
    unfold qm
    split
    · split
      · exact qs_real hr t k _ a
      · rfl
    · split
      · exact qs_real hr t k _ a
      · rfl

/-- A sum over the head's lanes is a sum over each component's. -/
theorem sum_lanes (f : Fin 128 → ℝ) : ∑ a : Fin 128, f a = ∑ d : Fin 64, f ⟨d.val, by omega⟩ + ∑ d : Fin 64, f ⟨64 + d.val, by omega⟩ :=
  Fin.sum_univ_add (a := 64) (b := 64) f

/-- The scale of the queries undoes the factor of the exponent. -/
theorem scale_cancel (l k q : ℝ) (hl : l ≠ 0) : l * (k * (q * (1 / 8 / l))) = q * k * (1 / 8) := by
  field_simp

/-- The first component's columns: the base-two score is the score over `log 2`. -/
theorem score_fst (t : Fin cfg0.N) (k : Fin k0_t1_loop.trips) (n : ℕ) (y : Fin 256) :
    Real.log 2 * Tile.score (fun n a => keyR (arg1 m c) (arg2 m c) n ⟨128 * (headOf t).val + a.val, by omega⟩) (qm m c t k) n ⟨y.val, by omega⟩
      = scoreR (arg0 m c) (arg1 m c) (arg2 m c) (headOf t) 0 (rowOf t k y) n := by
  have hl := log_two_ne
  rw [Tile.score, sum_lanes, scoreR, Finset.sum_eq_zero (s := Finset.univ) (f := fun d : Fin 64 => _ * qm m c t k ⟨64 + d.val, _⟩ ⟨y.val, _⟩), add_zero,
    Finset.mul_sum, Finset.sum_mul]
  · refine Finset.sum_congr rfl fun d _ => ?_
    rw [qm, dif_pos y.isLt, if_pos d.isLt, qs]
    have e : (⟨128 * (headOf t).val + d.val, by omega⟩ : Fin 1024) = ⟨128 * (headOf t).val + 64 * (0 : Fin 2).val + d.val, by omega⟩ := Fin.ext rfl
    dsimp only
    rw [e]
    exact scale_cancel _ _ _ hl
  · intro d _
    rw [qm, dif_pos y.isLt, if_neg (show ¬ 64 + d.val < 64 by omega), mul_zero]

/-- The second component's columns. -/
theorem score_snd (t : Fin cfg0.N) (k : Fin k0_t1_loop.trips) (n : ℕ) (y : Fin 256) :
    Real.log 2 * Tile.score (fun n a => keyR (arg1 m c) (arg2 m c) n ⟨128 * (headOf t).val + a.val, by omega⟩) (qm m c t k) n ⟨256 + y.val, by omega⟩
      = scoreR (arg0 m c) (arg1 m c) (arg2 m c) (headOf t) 1 (rowOf t k y) n := by
  have hl := log_two_ne
  have hx : ¬ 256 + y.val < 256 := by omega
  have hy : (⟨256 + y.val - 256, by omega⟩ : Fin 256) = y := Fin.ext (Nat.add_sub_cancel_left ..)
  rw [Tile.score, sum_lanes, scoreR, Finset.sum_eq_zero (s := Finset.univ) (f := fun d : Fin 64 => _ * qm m c t k ⟨d.val, _⟩ ⟨256 + y.val, _⟩), zero_add,
    Finset.mul_sum, Finset.sum_mul]
  · refine Finset.sum_congr rfl fun d _ => ?_
    have e : (⟨128 * (headOf t).val + (64 + d.val), by omega⟩ : Fin 1024) = ⟨128 * (headOf t).val + 64 * (1 : Fin 2).val + d.val, by omega⟩ :=
      Fin.ext (Nat.add_assoc _ 64 _).symm
    have hq : qm m c t k ⟨64 + d.val, by omega⟩ ⟨256 + y.val, by omega⟩
        = qryR (arg0 m c) (rowOf t k y) ⟨128 * (headOf t).val + (64 + d.val), by omega⟩ * (1 / 8 / Real.log 2) := by
      rw [qm, dif_neg hx, if_pos (show 64 ≤ 64 + d.val by omega), hy, qs]
    rw [hq, e]
    exact scale_cancel _ _ _ hl
  · intro d _
    rw [qm, dif_neg hx, if_neg (show ¬ 64 ≤ d.val by omega), mul_zero]

/-! ## A block of the result -/

/-- The parameters' array, one axis less, entry by entry. -/
theorem dropAxis_apply (x : FVec Ideal S1x4x64 .f32) (y : Fin 4) (d : Fin 64) :
    shapeCast S4x64 x shapeCasts_S1x4x64_S4x64 (ix2 y d) = x (ix3 0 y d) := by
  pointwise

/-- The kernel's factor is the reference's. -/
theorem lam_eq (t : Fin cfg0.N) : k0_pay1 (insAt m c t).dl (ix2 0 0) = Reference.lam (arg5 m c) ix0 := by
  have h : ∀ (y : Fin 4) (d : Fin 64), (insAt m c t).dl (ix2 y d) = arg5 m c (ix3 0 y d) := fun y d => by
    have e : (insAt m c t).dl (ix2 y d) = V m c main_v5 ((win0_5.rect t).emb (ix2 y d)) := rfl
    have hi : (win0_5.rect t).emb (ix2 y d) = (ix2 y d : S4x64.Idx) := by
      obtain ⟨h0, h1⟩ := index5 t
      funext b
      apply Fin.ext
      match b with
      | 0 => show win0_5.index t 0 * 4 + 1 * y.val = y.val; omega
      | 1 => show win0_5.index t 1 * 64 + 1 * d.val = d.val; omega
    rw [e, V_main_v5, hi]
    exact dropAxis_apply (arg5 m c) y d
  rw [lam_apply, Reference.lam_apply]
  simp only [h]

/-- The kernel's gain is the argument. -/
theorem sg_apply (t : Fin cfg0.N) (e : Fin 128) : (insAt m c t).sg (ix2 0 e) = arg6 m c (ix2 0 e) := by
  have h : (insAt m c t).sg (ix2 0 e) = V m c main_v7 ((win0_6.rect t).emb (ix2 0 e)) := rfl
  have hi : (win0_6.rect t).emb (ix2 0 e) = (ix2 0 e : S1x128.Idx) := by
    obtain ⟨h0, h1⟩ := index6 t
    funext b
    apply Fin.ext
    match b with
    | 0 => show win0_6.index t 0 * 1 + 1 * 0 = 0; omega
    | 1 => show win0_6.index t 1 * 128 + 1 * e.val = e.val; omega
  rw [h, V_main_v7, hi]
  pointwise

variable (m c) in
/-- The attended values of the reference, from the kernel's arguments. -/
abbrev att : FVec Ideal Cert.ReferenceIdeal.S16384x8x128 .f32 :=
  attended (vals (arg3 m c) (arg4 m c)) (mixed (weights (scores (arg0 m c) (keys (arg1 m c) (arg2 m c)))) (Reference.lam (arg5 m c)))

/-- The difference of a trip's two components is the reference's. -/
theorem diff_real (hr : ArgsReal m c) (t : Fin cfg0.N) (k : Fin k0_t1_loop.trips) (e : Fin 128) (y : Fin 256) :
    diff (k0_pay1 (insAt m c t).dl) ((insAt m c t).tile k).out (ix2 e y) = att m c (ix3 (rowOf t k y) (headOf t) e) := by
  obtain ⟨L, hL⟩ := lam_real hr.a5
  rw [diff_apply, lam_eq, hL, Tile.out_real (tile_isReal hr t k), Tile.out_real (tile_isReal hr t k),
    ← EReal.coe_mul, ← EReal.coe_sub]
  refine Eq.trans ?_ (Reference.attended_real _ _ (scores_real hr.a0 hr.a1 hr.a2) _ _ (vals_real hr.a3 hr.a4) _ L hL _ _ _).symm
  simp only [score_fst, score_snd]

/-- An entry of a point's block is the entry of the reference's result at the block's rows and the head's lanes. -/
theorem outBlk_real (hr : ArgsReal m c) (t : Fin cfg0.N) (y : Fin 1024) (e : Fin 128) :
    (insAt m c t).outBlk (ix2 y e) = normed (att m c) (arg6 m c) (ix2 ⟨1024 * (t.val % 16) + y.val, by omega⟩ ⟨128 * (headOf t).val + e.val, by omega⟩) := by
  have hi : inTrip (ix2 y e) = ix2 ⟨y.val % 256, Nat.mod_lt _ (by decide)⟩ e := by
    funext b
    match b with
    | 0 => rfl
    | 1 => rfl
  have h1 : (insAt m c t).outBlk (ix2 y e) = ((insAt m c t).tile (tripOf y)).res (k0_pay1 (insAt m c t).dl) (insAt m c t).sg (inTrip (ix2 y e)) := rfl
  have h2 : ∀ (y' : Fin 256), ((insAt m c t).tile (tripOf y)).res (k0_pay1 (insAt m c t).dl) (insAt m c t).sg (ix2 y' e)
      = k0_pay2 (diff (k0_pay1 (insAt m c t).dl) ((insAt m c t).tile (tripOf y)).out) (rms (diff (k0_pay1 (insAt m c t).dl) ((insAt m c t).tile (tripOf y)).out))
        (insAt m c t).sg (ix2 y' e) := fun _ => rfl
  have hrow : rowOf t (tripOf y) ⟨y.val % 256, Nat.mod_lt _ (by decide)⟩ = ⟨1024 * (t.val % 16) + y.val, by omega⟩ :=
    Fin.ext (congrArg (1024 * (t.val % 16) + ·) (Nat.div_add_mod y.val 256))
  have hh : (⟨(128 * (headOf t).val + e.val) / 128, by omega⟩ : Fin 8) = headOf t := Fin.ext (show (128 * (headOf t).val + e.val) / 128 = (headOf t).val by omega)
  have he : (⟨(128 * (headOf t).val + e.val) % 128, by omega⟩ : Fin 128) = e := Fin.ext (show (128 * (headOf t).val + e.val) % 128 = e.val by omega)
  rw [h1, hi, h2, res_apply, Reference.normed_apply]
  simp only [diff_real hr, hrow, hh, he, sg_apply]

end Cert.Proof.KernelIdeal

end
-- ==== Proof.Whole.lean ====
/-
  The kernel's whole result is the reference's, on finite arguments.
-/
module

public import proofs.«01_k».proof.Proof.Attention
public import proofs.«01_k».proof.Pre_finite
public import Idealize.ShloMosaic.Lib.Pipeline.Value
public import Idealize.ShloMosaic.Lib.ReduceAll

@[expose] public section

set_option maxRecDepth 16384

noncomputable section

namespace Cert.Proof.KernelIdeal

open Cert.KernelIdeal Cert.KernelIdeal.Gen
open Idealize.ShloMosaic Idealize.ShloMosaic.TcCoe Idealize.SL.Sem
open Cert.Proof.Soft
open Cert.Proof.Reference (normed)

/-! ## The precondition -/

/-- The side conditions of the precondition's operations. -/
theorem preFacts : Cert.Pre_finite.Facts where
  bcast_S_S16384x1024 := by decide
  reducesTo_S16384x1024_S_d0_1 := by decide
  h_S_ := by decide
  bitsLt_bf16_f32 := by decide
  bcast_S_S256x1024 := by decide
  reducesTo_S256x1024_S_d0_1 := by decide
  bcast_S_S1024x256 := by decide
  reducesTo_S1024x256_S_d0_1 := by decide
  bcast_S_S1024x16384 := by decide
  reducesTo_S1024x16384_S_d0_1 := by decide
  bcast_S_S1x4x64 := by decide
  reducesTo_S1x4x64_S_d0_1_2 := by decide

/-- An entry of absolute value below infinity is a real number. -/
theorem real_of_abs_lt (x : EReal) (h : Ideal.cmp .olt (max x (-x)) (Ideal.ofBits .f32 0x7F800000#32) = 1#1) : ∃ r : ℝ, x = (r : EReal) := by
  have h' : max x (-x) < (⊤ : EReal) := by
    rw [← lit_inf]
    by_contra hn
    exact absurd (h.symm.trans (congrArg BitVec.ofBool (decide_eq_false hn))) (by decide)
  obtain ⟨h1, h2⟩ := max_lt_iff.1 h'
  refine ⟨x.toReal, (EReal.coe_toReal (ne_of_lt h1) fun hx => ?_).symm⟩
  rw [hx, EReal.neg_bot] at h2
  exact lt_irrefl _ h2

/-- An array whose finiteness test is one is real. -/
theorem allReal_of {s : Shape} {axes : List (Fin s.rank)} (x : FVec Ideal s .f32) (hb : Cert.Pre_finite.S_.BroadcastsInDim s ![])
    (hr : s.ReducesTo axes Cert.Pre_finite.S_) (hu : 0 < Cert.Pre_finite.S_.numel)
    (e : Host.reduce IntOp.andi (cmpf .olt (Host.absf x) (broadcastInDim s ![] hb (constant (F := Ideal) Cert.Pre_finite.S_ .f32 0x7F800000#32)))
      (constantI Cert.Pre_finite.S_ 1 1#1) hr hu ix0 = 1#1) : AllReal x := fun i => by
  have : Subsingleton Cert.Pre_finite.S_.Idx := ⟨fun a b => funext fun k => k.elim0⟩
  have h := Host.reduce_andi_all _ _ hr hu ix0 e i
  exact real_of_abs_lt (x i) h

variable (m : (ℓ : Loc nD τ sig) → Buf (Elt Ideal) ℓ)

/-- The precondition makes the arguments real. -/
theorem argsReal (c : Dev nD)
    (h : @Cert.Pre_finite.fn preFacts Ideal _ (arg0 m c) (arg1 m c) (arg2 m c) (arg3 m c) (arg4 m c) (arg5 m c) (arg6 m c) = fun _ => 1#1) :
    ArgsReal m c := by
  have h0 := congrFun h ix0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨allReal_of _ _ _ _ e0, allReal_of _ _ _ _ e1, allReal_of _ _ _ _ e2, allReal_of _ _ _ _ e3, allReal_of _ _ _ _ e4, allReal_of _ _ _ _ e5⟩

/-! ## The whole result -/

/-- The result, from the kernel's arguments. -/
def whole (c : Dev nD) : Buf (Elt Ideal) ((c.tc : Thread nD τ).loc main_v8) := normed (att m c) (arg6 m c)

variable {m}

/-- The place in the result of an entry of a point's block. -/
theorem emb7 (t : Fin cfg0.N) (y : Fin 1024) (e : Fin 128) :
    (win0_7.rect t).emb (ix2 y e) = (ix2 ⟨1024 * (t.val % 16) + y.val, by omega⟩ ⟨128 * (headOf t).val + e.val, by omega⟩ : S16384x1024.Idx) := by
  obtain ⟨h0, h1⟩ := index7 t
  funext b
  apply Fin.ext
  match b with
  | 0 => show win0_7.index t 0 * 1024 + 1 * y.val = 1024 * (t.val % 16) + y.val; omega
  | 1 => show win0_7.index t 1 * 128 + 1 * e.val = 128 * (t.val / 16) + e.val; omega

/-- What a point writes back is its block of the whole result. -/
theorem flushed_eq {c : Dev nD} (hr : ArgsReal m c) (t : Fin cfg0.N) :
    (dats m 0 c).flushed 7 t = ((cfg0.win 7).blk t).view.read (Elt Ideal) (whole m c) := by
  unfold Pipeline.Dat.flushed
  rw [after0_7]
  funext y
  have e : ((cfg0.win 7).blk t).view.read (Elt Ideal) (whole m c) y = whole m c ((win0_7.rect t).emb y) := rfl
  obtain ⟨i, j, rfl⟩ : ∃ (i : Fin 1024) (j : Fin 128), y = (ix2 i j : S1024x128.Idx) := ⟨y 0, y 1, eq_ix2 y⟩
  rw [e, emb7]
  exact outBlk_real hr t i j

/-- The row block's rows and the head's lanes are in a point's block. -/
theorem mem_blk (t : Fin cfg0.N) (i : S16384x1024.Idx) (h0 : (i 0).val / 1024 = t.val % 16) (h1 : (i 1).val / 128 = t.val / 16) :
    i ∈ ((cfg0.win 7).blk t).view.set := by
  show i ∈ ((View.whole main_v8).slice (win0_7.rect t)).set
  rw [View.set_slice_whole, Rect.mem_set_unit]
  obtain ⟨e0, e1⟩ := index7 t
  intro a
  match a with
  | ⟨0, _⟩ => show win0_7.index t 0 * 1024 ≤ (i 0).val ∧ (i 0).val < win0_7.index t 0 * 1024 + 1024; omega
  | ⟨1, _⟩ => show win0_7.index t 1 * 128 ≤ (i 1).val ∧ (i 1).val < win0_7.index t 1 * 128 + 128; omega

/-- The points' blocks cover the result. -/
theorem cover (i : S16384x1024.Idx) : ∃ t : Fin cfg0.N, (cfg0.win 7).flush t = true ∧ i ∈ ((cfg0.win 7).blk t).view.set := by
  have h0 : (i 0).val < 16384 := (i 0).isLt
  have h1 : (i 1).val < 1024 := (i 1).isLt
  have hN : cfg0.N = 128 := rfl
  refine ⟨⟨16 * ((i 1).val / 128) + (i 0).val / 1024, by rw [hN]; omega⟩, flush0_7 _, mem_blk _ i ?_ ?_⟩
  · show _ = (16 * ((i 1).val / 128) + (i 0).val / 1024) % 16; omega
  · show _ = (16 * ((i 1).val / 128) + (i 0).val / 1024) / 16; omega

/-- The result's array after the launch. -/
theorem arrAt_eq {c : Dev nD} (hr : ArgsReal m c) : (dats m 0 c).arrAt 7 cfg0.N = whole m c :=
  Pipeline.Dat.arrAt_eq_of_cover (dats m 0 c) 7 (whole m c) (fun t _ => flushed_eq hr t) cover

end Cert.Proof.KernelIdeal

end
-- ==== Proof.Gelu.lean ====
/-
  The hyperbolic-tangent form of the gated unit's activation and its exponential form are one function of an extended
  real number.
-/
module

public import proofs.«01_k».proof.Proof.Soft

@[expose] public section

noncomputable section

namespace Cert.Proof.Gelu

open Idealize.ShloMosaic

/-- The exponential form, its two factors free. -/
def viaExp (k kc x : EReal) : EReal := Ideal.div x (1 + Ideal.exp2 (x * (k + kc * (x * x))))

/-- The hyperbolic-tangent form, its two factors free. -/
def viaTanh (s c x : EReal) : EReal := x * (((1 / 2 : ℝ) : EReal) * (1 + Ideal.tanh (s * (x + c * (x * x * x)))))

/-- Half of one more than the hyperbolic tangent of `y` is the inverse of one more than the exponential of `-2 y`. -/
theorem half_tanh (y : ℝ) : 1 / 2 * (1 + Real.tanh y) = 1 / (1 + Real.exp (-2 * y)) := by
  have e1 : Real.exp (-2 * y) = Real.exp (-y) / Real.exp y := by rw [← Real.exp_sub]; ring_nf
  have h1 := Real.exp_pos y
  have h2 := Real.exp_pos (-y)
  rw [Real.tanh_eq_sinh_div_cosh, Real.sinh_eq, Real.cosh_eq, e1]
  field_simp
  ring

/-- The two forms agree, the first's factors being `-2 s / log 2` and that times `c`. -/
theorem viaExp_eq (s c : ℝ) (hs : 0 < s) (hc : 0 < c) (x : EReal) :
    viaExp ((-2 * s * (Real.log 2)⁻¹ : ℝ) : EReal) ((-2 * s * (Real.log 2)⁻¹ * c : ℝ) : EReal) x = viaTanh (s : EReal) (c : EReal) x := by
  have hl : 0 < Real.log 2 := Real.log_pos one_lt_two
  have hk : -2 * s * (Real.log 2)⁻¹ < 0 := by
    have : 0 < s * (Real.log 2)⁻¹ := by positivity
    linarith
  have hkc : -2 * s * (Real.log 2)⁻¹ * c < 0 := mul_neg_of_neg_of_pos hk hc
  unfold viaExp viaTanh
  induction x with
  | bot =>
    rw [EReal.bot_mul_bot, EReal.coe_mul_top_of_neg hkc, EReal.add_bot, EReal.bot_mul_bot, Ideal.exp2_top]
    rw [EReal.top_mul_bot, EReal.coe_mul_bot_of_pos hc, EReal.add_bot, EReal.coe_mul_bot_of_pos hs, Ideal.tanh_bot]
    have e0 : (1 : EReal) + -1 = 0 := by
      rw [← EReal.coe_one, ← EReal.coe_neg, ← EReal.coe_add]; norm_num
    have e1 : (1 : EReal) + ⊤ = ⊤ := by rw [← EReal.coe_one]; exact EReal.coe_add_top 1
    rw [e0, e1, mul_zero, mul_zero, Ideal.div, if_neg EReal.top_ne_zero, EReal.inv_top, mul_zero]
  | top =>
    rw [EReal.top_mul_top, EReal.coe_mul_top_of_neg hkc, EReal.add_bot, EReal.top_mul_bot, Ideal.exp2_bot, add_zero]
    rw [EReal.top_mul_top, EReal.coe_mul_top_of_pos hc, EReal.top_add_top, EReal.coe_mul_top_of_pos hs, Ideal.tanh_top]
    have e1 : (((1 / 2 : ℝ) : EReal)) * (1 + 1) = 1 := by
      rw [← EReal.coe_one, ← EReal.coe_add, ← EReal.coe_mul]; norm_num
    rw [e1, mul_one, Ideal.div, if_neg one_ne_zero, inv_one, mul_one]
  | coe r =>
    have e : Real.rpow 2 (r * (-2 * s * (Real.log 2)⁻¹ + -2 * s * (Real.log 2)⁻¹ * c * (r * r))) = Real.exp (-2 * (s * (r + c * (r * r * r)))) := by
      rw [Real.rpow_eq_pow, Real.rpow_def_of_pos two_pos]
      congr 1
      field_simp
      ring
    have hpos : (1 : ℝ) + Real.exp (-2 * (s * (r + c * (r * r * r)))) ≠ 0 := by positivity
    simp only [← EReal.coe_mul, ← EReal.coe_add, Ideal.exp2_coe, Ideal.tanh_coe, e, ← EReal.coe_one]
    rw [Ideal.div_coe hpos, half_tanh, ← EReal.coe_mul]

/-- The literals of the two forms. -/
theorem lit_one : Ideal.ofBits .f32 0x3F800000#32 = 1 := by
  rw [← EReal.coe_one]
  simp [Ideal.ofBits, Ideal.ieee, -EReal.coe_mul]
  norm_num

theorem lit_half : Ideal.ofBits .f32 0x3F000000#32 = ((1 / 2 : ℝ) : EReal) := by
  simp [Ideal.ofBits, Ideal.ieee, -EReal.coe_mul]
  norm_num

theorem lit_root : Ideal.ofBits .f32 0x3F4C422A#32 = ((6693141 / 8388608 : ℝ) : EReal) := by
  simp [Ideal.ofBits, Ideal.ieee, -EReal.coe_mul]
  norm_num

theorem lit_cube : Ideal.ofBits .f32 0x3D372713#32 = ((12003091 / 268435456 : ℝ) : EReal) := by
  simp [Ideal.ofBits, Ideal.ieee, -EReal.coe_mul]
  norm_num

/-- The two forms agree at the programs' literals and named constants. -/
theorem viaExp_lit (x : EReal) :
    viaExp ((-6693141 / 4194304 * (Real.log 2)⁻¹ : ℝ) : EReal) (((-6693141 / 4194304 * (Real.log 2)⁻¹) * (12003091 / 268435456) : ℝ) : EReal) x
      = viaTanh (Ideal.ofBits .f32 0x3F4C422A#32) (Ideal.ofBits .f32 0x3D372713#32) x := by
  rw [lit_root, lit_cube, ← viaExp_eq _ _ (by norm_num) (by norm_num)]
  norm_num

end Cert.Proof.Gelu

end
-- ==== Proof.FfnPoint.lean ====
/-
  What one point of the feed-forward kernel's grid leaves in its two scratch buffers and its output block, as a term of what the point found.
-/
module

public import proofs.«01_k».proof.Proof.Gen.Kernel2Ideal.Frame
public import Idealize.ShloMosaic.Lib.Pipeline.ValueKit.Point

@[expose] public section

set_option maxRecDepth 16384

noncomputable section

namespace Cert.Proof.FfnPoint

open Cert.Kernel2Ideal Cert.Kernel2Ideal.Gen
open Idealize.ShloMosaic Idealize.ShloMosaic.TcCoe Idealize.SL.Sem

variable {F : FTy → Type} [FloatOps F] [Named F]

/-- Row `r` of the three convolution taps' block. -/
abbrev tap0 (x : Vec F S3x512 .f32) : Vec F S1x512 .f32 := View.ld x (Rect.unit (s := S3x512) ![0, 0] S1x512.size inb_S3x512_S1x512_0_0)
@[inherit_doc tap0] abbrev tap1 (x : Vec F S3x512 .f32) : Vec F S1x512 .f32 := View.ld x (Rect.unit (s := S3x512) ![1, 0] S1x512.size inb_S3x512_S1x512_1_0)
@[inherit_doc tap0] abbrev tap2 (x : Vec F S3x512 .f32) : Vec F S1x512 .f32 := View.ld x (Rect.unit (s := S3x512) ![2, 0] S1x512.size inb_S3x512_S1x512_2_0)

/-- The accumulator after a point: what it held plus the point's block of wide columns, projected back. -/
def step (x0 : Vec F S512x2048 .bf16) (x4 x5 : Vec F S2048x512 .bf16) (x6 : Vec F S512x2048 .bf16) (x7 : Vec F S3x512 .f32) (x8 : Vec F S1x512 .f32)
    (he : Vec F S544x2048 .bf16) (acc : Vec F S512x2048 .f32) : Vec F S512x2048 .f32 :=
  k0_pay1 (k0_pay8 x0 x4) (k0_pay9 he x5 x8 (tap0 x7) (tap1 x7) (tap2 x7)) (k0_pay10 he x5 x8 (tap0 x7) (tap1 x7) (tap2 x7)) (k0_pay11 (F := F)) acc x6

theorem hz : (![0, 0] : Fin 2 → Nat) = fun _ => 0 := funext fun a => by fin_cases a <;> rfl

variable (c : Dev nD) (i : grid0.Coords)
  (b0 : Memref sig .tc .vmem S512x2048 .bf16) (h0 : b0.IsWhole)
  (b1 : Memref sig .tc .vmem S16x2048 .bf16) (h1 : b1.IsWhole)
  (b2 : Memref sig .tc .vmem S16x2048 .bf16) (h2 : b2.IsWhole)
  (b3 : Memref sig .tc .vmem S512x2048 .f32) (h3 : b3.IsWhole)
  (b4 : Memref sig .tc .vmem S2048x512 .bf16) (h4 : b4.IsWhole)
  (b5 : Memref sig .tc .vmem S2048x512 .bf16) (h5 : b5.IsWhole)
  (b6 : Memref sig .tc .vmem S512x2048 .bf16) (h6 : b6.IsWhole)
  (b7 : Memref sig .tc .vmem S3x512 .f32) (h7 : b7.IsWhole)
  (b8 : Memref sig .tc .vmem S1x512 .f32) (h8 : b8.IsWhole)
  (b9 : Memref sig .tc .vmem S1x2048 .f32) (h9 : b9.IsWhole)
  (b10 : Memref sig .tc .vmem S1x2048 .f32) (h10 : b10.IsWhole)
  (b11 : Memref sig .tc .vmem S512x2048 .f32) (h11 : b11.IsWhole)
  (b12 : Memref sig .tc .vmem S544x2048 .bf16) (h12 : b12.IsWhole)
  (b13 : Memref sig .tc .vmem S512x2048 .f32) (h13 : b13.IsWhole)
variable (x0 : Vec F S512x2048 .bf16) (x1 : Vec F S16x2048 .bf16) (x2 : Vec F S16x2048 .bf16) (x3 : Vec F S512x2048 .f32) (x4 : Vec F S2048x512 .bf16) (x5 : Vec F S2048x512 .bf16) (x6 : Vec F S512x2048 .bf16) (x7 : Vec F S3x512 .f32) (x8 : Vec F S1x512 .f32) (x9 : Vec F S1x2048 .f32) (x10 : Vec F S1x2048 .f32)

/-- At a middle point the accumulator takes one step. -/
theorem acc_middle (hc0 : ¬cond0_0 i) (hc1 : ¬cond0_1 i) (xs0 : Vec F S544x2048 .bf16) (xs1 : Vec F S512x2048 .f32) :
    sout0_B_1 c i b0 h0 b1 h1 b2 h2 b3 h3 b4 h4 b5 h5 b6 h6 b7 h7 b8 h8 b9 h9 b10 h10 b11 h11 b12 h12 b13 h13 hc0 hc1 x0 x1 x2 x3 x4 x5 x6 x7 x8 x9 x10 xs0 xs1 = step x0 x4 x5 x6 x7 x8 xs0 xs1 := by
  unfold sout0_B_1
  rw [View.read_writes_eq_canon _ _ _ (scover0_B_1 c i b0 h0 b1 h1 b2 h2 b3 h3 b4 h4 b5 h5 b6 h6 b7 h7 b8 h8 b9 h9 b10 h10 b11 h11 b12 h12 b13 h13 hc0 hc1 x0 x1 x2 x3 x4 x5 x6 x7 x8 x9 x10 xs0 xs1)]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h12.read_unread, h13.read_unread, View.ld_unit_zero (S := S512x2048) hz, View.ld_unit_zero (S := S16x2048) hz, View.ld_unit_zero (S := S2048x512) hz, View.ld_unit_zero (S := S1x512) hz, View.ld_unit_zero (S := S1x2048) hz, View.ld_unit_zero (S := S544x2048) hz]
  rfl

/-- At a last point the accumulator takes one step. -/
theorem acc_last (hc0 : ¬cond0_0 i) (hc1 : cond0_1 i) (xs0 : Vec F S544x2048 .bf16) (xs1 : Vec F S512x2048 .f32) :
    sout0_C_1 c i b0 h0 b1 h1 b2 h2 b3 h3 b4 h4 b5 h5 b6 h6 b7 h7 b8 h8 b9 h9 b10 h10 b11 h11 b12 h12 b13 h13 hc0 hc1 x0 x1 x2 x3 x4 x5 x6 x7 x8 x9 x10 xs0 xs1 = step x0 x4 x5 x6 x7 x8 xs0 xs1 := by
  unfold sout0_C_1
  rw [View.read_writes_eq_canon _ _ _ (scover0_C_1 c i b0 h0 b1 h1 b2 h2 b3 h3 b4 h4 b5 h5 b6 h6 b7 h7 b8 h8 b9 h9 b10 h10 b11 h11 b12 h12 b13 h13 hc0 hc1 x0 x1 x2 x3 x4 x5 x6 x7 x8 x9 x10 xs0 xs1)]
  unfold kernelRun0_C
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h12.read_unread, h13.read_unread, View.ld_unit_zero (S := S512x2048) hz, View.ld_unit_zero (S := S16x2048) hz, View.ld_unit_zero (S := S2048x512) hz, View.ld_unit_zero (S := S1x512) hz, View.ld_unit_zero (S := S1x2048) hz, View.ld_unit_zero (S := S544x2048) hz]
  rfl

/-- At a last point the output block is the normalised rows of the residual plus the accumulator. -/
theorem out_last (hc0 : ¬cond0_0 i) (hc1 : cond0_1 i) (xs0 : Vec F S544x2048 .bf16) (xs1 : Vec F S512x2048 .f32) :
    out0_C_11 c i b0 h0 b1 h1 b2 h2 b3 h3 b4 h4 b5 h5 b6 h6 b7 h7 b8 h8 b9 h9 b10 h10 b11 h11 b12 h12 b13 h13 hc0 hc1 x0 x1 x2 x3 x4 x5 x6 x7 x8 x9 x10 xs0 xs1 = k0_pay2 x3 x9 (step x0 x4 x5 x6 x7 x8 xs0 xs1) x10 := by
  unfold out0_C_11
  rw [View.read_writes_eq_canon _ _ _ (cover0_C_11 c i b0 h0 b1 h1 b2 h2 b3 h3 b4 h4 b5 h5 b6 h6 b7 h7 b8 h8 b9 h9 b10 h10 b11 h11 b12 h12 b13 h13 hc0 hc1 x0 x1 x2 x3 x4 x5 x6 x7 x8 x9 x10 xs0 xs1)]
  unfold kernelRun0_C
  dsimp only
  sl_unfold_words
  rw [View.canon_unit_zero hz, View.readCov_unit_zero (S := S512x2048) _ hz]
  simp only [View.readAt_eq_ld, h0.read_unread, h1.read_unread, h2.read_unread, h3.read_unread, h4.read_unread, h5.read_unread, h6.read_unread, h7.read_unread, h8.read_unread, h9.read_unread, h10.read_unread, h12.read_unread, h13.read_unread, View.ld_unit_zero (S := S512x2048) hz, View.ld_unit_zero (S := S16x2048) hz, View.ld_unit_zero (S := S2048x512) hz, View.ld_unit_zero (S := S1x512) hz, View.ld_unit_zero (S := S1x2048) hz, View.ld_unit_zero (S := S544x2048) hz]
  rfl

/-- The rows scratch after a first point: the block's rows with the row before and the row after, as a list of stores. -/
def rows (i : grid0.Coords) (x0 : Vec F S512x2048 .bf16) (x1 x2 : Vec F S16x2048 .bf16) : Vec F S544x2048 .bf16 :=
  View.canon ([⟨Rect.unit (s := S544x2048) ![528, 0] S16x2048.size inb_S544x2048_S16x2048_528_0, k0_pay6 i x2⟩,
    ⟨Rect.unit (s := S544x2048) ![16, 0] S512x2048.size inb_S544x2048_S512x2048_16_0, k0_pay5 x0⟩,
    ⟨Rect.unit (s := S544x2048) ![0, 0] S16x2048.size inb_S544x2048_S16x2048_0_0, k0_pay4 i x1⟩] : List (View.Piece (Elt F) S544x2048 .bf16))

theorem rows_cover (i : grid0.Coords) (x0 : Vec F S512x2048 .bf16) (x1 x2 : Vec F S16x2048 .bf16) (y : S544x2048.Idx) :
    ∃ pc ∈ ([⟨Rect.unit (s := S544x2048) ![528, 0] S16x2048.size inb_S544x2048_S16x2048_528_0, k0_pay6 i x2⟩,
      ⟨Rect.unit (s := S544x2048) ![16, 0] S512x2048.size inb_S544x2048_S512x2048_16_0, k0_pay5 x0⟩,
      ⟨Rect.unit (s := S544x2048) ![0, 0] S16x2048.size inb_S544x2048_S16x2048_0_0, k0_pay4 i x1⟩] : List (View.Piece (Elt F) S544x2048 .bf16)), y ∈ pc.1.set :=
  View.cover_of_tiledBy _ ![16, 2048] (by sl_kernel_rfl) y

/-- At a first point the rows scratch is laid afresh. -/
theorem rows_first (hc0 : cond0_0 i) (hc1 : ¬cond0_1 i) :
    sout0_A_0 c i b0 h0 b1 h1 b2 h2 b3 h3 b4 h4 b5 h5 b6 h6 b7 h7 b8 h8 b9 h9 b10 h10 b11 h11 b12 h12 b13 h13 hc0 hc1 x0 x1 x2 x3 x4 x5 x6 x7 x8 x9 x10 = rows i x0 x1 x2 := by
  unfold sout0_A_0
  rw [View.read_writes_eq_canon _ _ _ (scover0_A_0 c i b0 h0 b1 h1 b2 h2 b3 h3 b4 h4 b5 h5 b6 h6 b7 h7 b8 h8 b9 h9 b10 h10 b11 h11 b12 h12 b13 h13 hc0 hc1 x0 x1 x2 x3 x4 x5 x6 x7 x8 x9 x10)]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h12.read_unread, h13.read_unread, View.ld_unit_zero (S := S512x2048) hz, View.ld_unit_zero (S := S16x2048) hz, View.ld_unit_zero (S := S2048x512) hz, View.ld_unit_zero (S := S1x512) hz, View.ld_unit_zero (S := S1x2048) hz, View.ld_unit_zero (S := S544x2048) hz]
  rfl

/-- At a first point the accumulator takes one step from zero. -/
theorem acc_first (hc0 : cond0_0 i) (hc1 : ¬cond0_1 i) :
    sout0_A_1 c i b0 h0 b1 h1 b2 h2 b3 h3 b4 h4 b5 h5 b6 h6 b7 h7 b8 h8 b9 h9 b10 h10 b11 h11 b12 h12 b13 h13 hc0 hc1 x0 x1 x2 x3 x4 x5 x6 x7 x8 x9 x10 = step x0 x4 x5 x6 x7 x8 (rows i x0 x1 x2) (k0_pay7 (F := F)) := by
  unfold sout0_A_1
  rw [View.read_writes_eq_canon _ _ _ (scover0_A_1 c i b0 h0 b1 h1 b2 h2 b3 h3 b4 h4 b5 h5 b6 h6 b7 h7 b8 h8 b9 h9 b10 h10 b11 h11 b12 h12 b13 h13 hc0 hc1 x0 x1 x2 x3 x4 x5 x6 x7 x8 x9 x10)]
  unfold kernelRun0_A
  dsimp only
  sl_unfold_words
  rw [View.canon_cons_unit_zero (S := S512x2048) hz, View.readCov_unit_zero (S := S512x2048) _ hz]
  simp only [View.readAt_eq_ld, h0.read_unread, h1.read_unread, h2.read_unread, h3.read_unread, h4.read_unread, h5.read_unread, h6.read_unread, h7.read_unread, h8.read_unread, h9.read_unread, h10.read_unread, h12.read_unread, h13.read_unread, View.ld_unit_zero (S := S512x2048) hz, View.ld_unit_zero (S := S16x2048) hz, View.ld_unit_zero (S := S2048x512) hz, View.ld_unit_zero (S := S1x512) hz, View.ld_unit_zero (S := S1x2048) hz, View.ld_unit_zero (S := S544x2048) hz]
  rw [View.readCov_eq_canon_ld _ _ _ (rows_cover i x0 x1 x2), View.ld_unit_zero (S := S544x2048) hz]
  rfl

end Cert.Proof.FfnPoint

end
-- ==== Proof.FfnTile.lean ====
/-
  One point of the feed-forward kernel's grid over the extended reals, entry by entry.
-/
module

public import proofs.«01_k».proof.Proof.Gelu
public import proofs.«01_k».proof.Proof.FfnPoint
public import Idealize.ShloMosaic.Lib.KernelVsHost

@[expose] public section

set_option maxRecDepth 16384

noncomputable section

namespace Cert.Proof.FfnTile

open Cert.Kernel2Ideal Cert.Kernel2Ideal.Gen Cert.Proof.FfnPoint
open Idealize.ShloMosaic Idealize.ShloMosaic.TcCoe Idealize.SL.Sem
open Cert.Proof.Gelu

/-! ## The rows scratch -/

/-- Row 16 + a of the scratch is row a of the block. -/
theorem rows_mid (i : grid0.Coords) (x0 : FVec Ideal S512x2048 .bf16) (x1 x2 : FVec Ideal S16x2048 .bf16) (r : Fin 544) (a : Fin 512) (d : Fin 2048)
    (hr : r.val = 16 + a.val) : rows (F := Ideal) i x0 x1 x2 (ix2 r d) = x0 (ix2 a d) := by
  refine View.canon_eq_of_allAt _ _ _ (rows_cover (F := Ideal) i x0 x1 x2 _) ?_
  refine View.allAt_cons_unit _ _ _ _ _ (fun x hx => ?_) (View.allAt_cons_unit _ _ _ _ _ (fun x hx => ?_) (View.allAt_cons_unit _ _ _ _ _ (fun x hx => ?_) (View.allAt_nil _ _)))
  · have h0 : r.val = 528 + (x 0).val := hx 0
    have := a.isLt
    omega
  · have h0 : r.val = 16 + (x 0).val := hx 0
    have h1 : d.val = 0 + (x 1).val := hx 1
    unfold k0_pay5
    rw [shapeCast_self]
    refine congrArg x0 (funext fun b => Fin.ext ?_)
    match b with
    | 0 => show (x 0).val = a.val; omega
    | 1 => show (x 1).val = d.val; omega
  · have h0 : r.val = 0 + (x 0).val := hx 0
    have h1 : (x 0).val < 16 := (x 0).isLt
    omega

/-- Row 15 of the scratch is the last row of the block before, zero at the first block. -/
theorem rows_before (i : grid0.Coords) (x0 : FVec Ideal S512x2048 .bf16) (x1 x2 : FVec Ideal S16x2048 .bf16) (r : Fin 544) (d : Fin 2048)
    (hr : r.val = 15) : rows (F := Ideal) i x0 x1 x2 (ix2 r d) = if (i 0).val = 0 then 0 else x1 (ix2 15 d) := by
  refine View.canon_eq_of_allAt _ _ _ (rows_cover (F := Ideal) i x0 x1 x2 _) ?_
  refine View.allAt_cons_unit _ _ _ _ _ (fun x hx => ?_) (View.allAt_cons_unit _ _ _ _ _ (fun x hx => ?_) (View.allAt_cons_unit _ _ _ _ _ (fun x hx => ?_) (View.allAt_nil _ _)))
  · have h0 : r.val = 528 + (x 0).val := hx 0
    omega
  · have h0 : r.val = 16 + (x 0).val := hx 0
    omega
  · have h0 : r.val = 0 + (x 0).val := hx 0
    have h1 : d.val = 0 + (x 1).val := hx 1
    have e : x = ix2 (15 : Fin 16) d := by
      funext b
      match b with
      | 0 => apply Fin.ext; show (x 0).val = 15; omega
      | 1 => apply Fin.ext; show (x 1).val = d.val; omega
    rw [e]
    unfold k0_pay4 k0_pay3
    rw [shapeCast_self]
    have hi : (i 0).val < 32 := (i 0).isLt
    generalize (i 0).val = n at hi
    by_cases hn : n = 0
    · rw [if_pos hn, hn]
      show Ideal.ofBits .bf16 0x0000#16 = 0
      simp [Ideal.ofBits, Ideal.ieee, -EReal.coe_mul]
    · rw [if_neg hn]
      have : Scalar.cmpi .eq (BitVec.ofNat 32 n) 0#32 = 0#1 := by
        revert hn; revert n; decide
      dsimp only
      rw [this]
      rfl

/-- Row 528 of the scratch is the first row of the block after, zero at the last block. -/
theorem rows_after (i : grid0.Coords) (x0 : FVec Ideal S512x2048 .bf16) (x1 x2 : FVec Ideal S16x2048 .bf16) (r : Fin 544) (d : Fin 2048)
    (hr : r.val = 528) : rows (F := Ideal) i x0 x1 x2 (ix2 r d) = if (i 0).val = 31 then 0 else x2 (ix2 0 d) := by
  refine View.canon_eq_of_allAt _ _ _ (rows_cover (F := Ideal) i x0 x1 x2 _) ?_
  refine View.allAt_cons_unit _ _ _ _ _ (fun x hx => ?_) (View.allAt_cons_unit _ _ _ _ _ (fun x hx => ?_) (View.allAt_cons_unit _ _ _ _ _ (fun x hx => ?_) (View.allAt_nil _ _)))
  · have h0 : r.val = 528 + (x 0).val := hx 0
    have h1 : d.val = 0 + (x 1).val := hx 1
    have e : x = ix2 (0 : Fin 16) d := by
      funext b
      match b with
      | 0 => apply Fin.ext; show (x 0).val = 0; omega
      | 1 => apply Fin.ext; show (x 1).val = d.val; omega
    rw [e]
    unfold k0_pay6 k0_pay3
    rw [shapeCast_self]
    have hi : (i 0).val < 32 := (i 0).isLt
    generalize (i 0).val = n at hi
    by_cases hn : n = 31
    · rw [if_pos hn, hn]
      show Ideal.ofBits .bf16 0x0000#16 = 0
      simp [Ideal.ofBits, Ideal.ieee, -EReal.coe_mul]
    · rw [if_neg hn]
      have : Scalar.cmpi .eq (BitVec.ofNat 32 n) 31#32 = 0#1 := by
        revert hn; revert n; decide
      dsimp only
      rw [this]
      rfl
  · have h0 : r.val = 16 + (x 0).val := hx 0
    have h1 : (x 0).val < 512 := (x 0).isLt
    omega
  · have h0 : r.val = 0 + (x 0).val := hx 0
    have h1 : (x 0).val < 16 := (x 0).isLt
    omega

/-! ## The payloads -/

theorem up_apply (x0 : FVec Ideal S512x2048 .bf16) (x4 : FVec Ideal S2048x512 .bf16) (a k : Fin 512) :
    k0_pay8 (F := Ideal) x0 x4 (ix2 a k) = ∑ d : Fin 2048, x0 (ix2 a d) * x4 (ix2 d k) := by
  pointwise [k0_pay8]

/-- The gate rows of the scratch. -/
def gate (he : FVec Ideal S544x2048 .bf16) (x5 : FVec Ideal S2048x512 .bf16) : FVec Ideal S544x512 .f32 :=
  matmul dot_S544x2048_S2048x512_S544x512_1_0_0_1_n_n none he (shapeCast S2048x512 x5 shapeCasts_S2048x512_S2048x512) (constant S544x512 .f32 0x00000000#32)

theorem gate_apply (he : FVec Ideal S544x2048 .bf16) (x5 : FVec Ideal S2048x512 .bf16) (r : Fin 544) (k : Fin 512) :
    gate he x5 (ix2 r k) = ∑ d : Fin 2048, he (ix2 r d) * x5 (ix2 d k) := by
  pointwise [gate]

/-- The convolution of three aligned arrays, its middle rows kept. -/
def taps (gm g gp : FVec Ideal S544x512 .f32) (b c0 c1 c2 : FVec Ideal S1x512 .f32) : FVec Ideal S512x512 .f32 :=
  extractStridedSlice S512x512 ![16, 0]
    (addf (addf (addf (broadcastTo S544x512 (shapeCast S1x512 b shapeCasts_S1x512_S1x512) broadcasts_S1x512_S544x512)
      (mulf (broadcastTo S544x512 (shapeCast S1x512 c0 shapeCasts_S1x512_S1x512) broadcasts_S1x512_S544x512) gm))
      (mulf (broadcastTo S544x512 (shapeCast S1x512 c1 shapeCasts_S1x512_S1x512) broadcasts_S1x512_S544x512) g))
      (mulf (broadcastTo S544x512 (shapeCast S1x512 c2 shapeCasts_S1x512_S1x512) broadcasts_S1x512_S544x512) gp)) slices_S544x512_o16_0_S512x512

theorem taps_apply (gm g gp : FVec Ideal S544x512 .f32) (b c0 c1 c2 : FVec Ideal S1x512 .f32) (a k : Fin 512) :
    taps gm g gp b c0 c1 c2 (ix2 a k) = b (ix2 0 k) + c0 (ix2 0 k) * gm (ix2 ⟨16 + a.val, by omega⟩ k) + c1 (ix2 0 k) * g (ix2 ⟨16 + a.val, by omega⟩ k)
      + c2 (ix2 0 k) * gp (ix2 ⟨16 + a.val, by omega⟩ k) := by
  pointwise [taps]

/-- The convolution at a row of the block. -/
theorem conv_apply (he : FVec Ideal S544x2048 .bf16) (x5 : FVec Ideal S2048x512 .bf16) (b c0 c1 c2 : FVec Ideal S1x512 .f32) (a k : Fin 512) :
    k0_pay9 (F := Ideal) he x5 b c0 c1 c2 (ix2 a k) = b (ix2 0 k) + c0 (ix2 0 k) * gate he x5 (ix2 ⟨15 + a.val, by omega⟩ k)
      + c1 (ix2 0 k) * gate he x5 (ix2 ⟨16 + a.val, by omega⟩ k) + c2 (ix2 0 k) * gate he x5 (ix2 ⟨17 + a.val, by omega⟩ k) := by
  have e : k0_pay9 (F := Ideal) he x5 b c0 c1 c2 = taps (dynamicRotate 0 1#32 none (gate he x5) rotates_S544x512_d0) (gate he x5)
      (dynamicRotate 0 543#32 none (gate he x5) rotates_S544x512_d0) b c0 c1 c2 := rfl
  rw [e, taps_apply]
  have e1 : dynamicRotate 0 1#32 none (gate he x5) rotates_S544x512_d0 (ix2 ⟨16 + a.val, by omega⟩ k) = gate he x5 (ix2 ⟨15 + a.val, by omega⟩ k) := by
    refine dynamicRotate_apply _ _ _ _ _ _ fun b => ?_
    match b with
    | 0 => show 15 + a.val = (16 + a.val + 544 - 1 % 544) % 544; omega
    | 1 => rfl
  have e2 : dynamicRotate 0 543#32 none (gate he x5) rotates_S544x512_d0 (ix2 ⟨16 + a.val, by omega⟩ k) = gate he x5 (ix2 ⟨17 + a.val, by omega⟩ k) := by
    refine dynamicRotate_apply _ _ _ _ _ _ fun b => ?_
    match b with
    | 0 => show 17 + a.val = (16 + a.val + 544 - 543 % 544) % 544; omega
    | 1 => rfl
  rw [e1, e2]

/-- The first factor of the activation. -/
def kap : EReal := Named.named (F := Ideal) (φ := .f32) κ "k0" 0xC0135761#32
/-- The second factor. -/
def kapc : EReal := Named.named (F := Ideal) (φ := .f32) κ "k0c" 0xBDD2D3E8#32

/-- The activated product of a point's wide columns. -/
def act (u v w q : FVec Ideal S512x512 .f32) : FVec Ideal S512x512 .f32 :=
  mulf (divf v (addf (broadcast S512x512 (Scalar.ofBits .f32 0x3F800000#32)) (exp2 (mulf v (addf (broadcast S512x512 (Named.named κ "k0" 0xC0135761#32)) (mulf q w)))))) u

theorem act_apply (u v : FVec Ideal S512x512 .f32) (j : S512x512.Idx) :
    act u v (mulf v v) (k0_pay11 (F := Ideal)) j = viaExp kap kapc (v j) * u j := by
  unfold viaExp
  rw [← lit_one]
  rfl

/-- An accumulator plus a product of two blocks. -/
def plusDot (acc : FVec Ideal S512x2048 .f32) (p : FVec Ideal S512x512 .f32) (x6 : FVec Ideal S512x2048 .bf16) : FVec Ideal S512x2048 .f32 :=
  shapeCast S512x2048 (addf acc (matmul dot_S512x512_S512x2048_S512x2048_1_0_0_1_n_n none (truncf .bf16 p bitsLt_bf16_f32)
    (shapeCast S512x2048 x6 shapeCasts_S512x2048_S512x2048) (constant S512x2048 .f32 0x00000000#32))) shapeCasts_S512x2048_S512x2048

theorem plusDot_apply (acc : FVec Ideal S512x2048 .f32) (p : FVec Ideal S512x512 .f32) (x6 : FVec Ideal S512x2048 .bf16) (a : Fin 512) (e : Fin 2048) :
    plusDot acc p x6 (ix2 a e) = acc (ix2 a e) + ∑ k : Fin 512, p (ix2 a k) * x6 (ix2 k e) := by
  pointwise [plusDot]

/-- The convolution of a point at row `a` of its block and column `k`. -/
def cv (x5 : FVec Ideal S2048x512 .bf16) (x7 : FVec Ideal S3x512 .f32) (x8 : FVec Ideal S1x512 .f32) (he : FVec Ideal S544x2048 .bf16) (a k : Fin 512) : EReal :=
  x8 (ix2 0 k) + x7 (ix2 0 k) * (∑ d : Fin 2048, he (ix2 ⟨15 + a.val, by omega⟩ d) * x5 (ix2 d k))
    + x7 (ix2 1 k) * (∑ d : Fin 2048, he (ix2 ⟨16 + a.val, by omega⟩ d) * x5 (ix2 d k))
    + x7 (ix2 2 k) * (∑ d : Fin 2048, he (ix2 ⟨17 + a.val, by omega⟩ d) * x5 (ix2 d k))

theorem tap0_apply (x7 : FVec Ideal S3x512 .f32) (k : Fin 512) : tap0 (F := Ideal) x7 (ix2 0 k) = x7 (ix2 0 k) := by
  pointwise [tap0]
theorem tap1_apply (x7 : FVec Ideal S3x512 .f32) (k : Fin 512) : tap1 (F := Ideal) x7 (ix2 0 k) = x7 (ix2 1 k) := by
  pointwise [tap1]
theorem tap2_apply (x7 : FVec Ideal S3x512 .f32) (k : Fin 512) : tap2 (F := Ideal) x7 (ix2 0 k) = x7 (ix2 2 k) := by
  pointwise [tap2]

/-- One step of the accumulator, entry by entry. -/
theorem step_apply (x0 : FVec Ideal S512x2048 .bf16) (x4 x5 : FVec Ideal S2048x512 .bf16) (x6 : FVec Ideal S512x2048 .bf16) (x7 : FVec Ideal S3x512 .f32)
    (x8 : FVec Ideal S1x512 .f32) (he : FVec Ideal S544x2048 .bf16) (acc : FVec Ideal S512x2048 .f32) (a : Fin 512) (e : Fin 2048) :
    step (F := Ideal) x0 x4 x5 x6 x7 x8 he acc (ix2 a e) = acc (ix2 a e)
      + ∑ k : Fin 512, viaExp kap kapc (cv x5 x7 x8 he a k) * (∑ d : Fin 2048, x0 (ix2 a d) * x4 (ix2 d k)) * x6 (ix2 k e) := by
  have e0 : step (F := Ideal) x0 x4 x5 x6 x7 x8 he acc = plusDot acc (act (k0_pay8 (F := Ideal) x0 x4)
      (k0_pay9 (F := Ideal) he x5 x8 (tap0 (F := Ideal) x7) (tap1 (F := Ideal) x7) (tap2 (F := Ideal) x7))
      (mulf (k0_pay9 (F := Ideal) he x5 x8 (tap0 (F := Ideal) x7) (tap1 (F := Ideal) x7) (tap2 (F := Ideal) x7)) (k0_pay9 (F := Ideal) he x5 x8 (tap0 (F := Ideal) x7) (tap1 (F := Ideal) x7) (tap2 (F := Ideal) x7)))
      (k0_pay11 (F := Ideal))) x6 := rfl
  rw [e0, plusDot_apply]
  congr 1
  refine Finset.sum_congr rfl fun k _ => ?_
  rw [act_apply, conv_apply, up_apply, gate_apply, gate_apply, gate_apply, tap0_apply, tap1_apply, tap2_apply]
  rfl

/-- The residual rows plus the scaled accumulator. -/
def resid (x3 : FVec Ideal S512x2048 .f32) (g : FVec Ideal S1x2048 .f32) (acc : FVec Ideal S512x2048 .f32) (a : Fin 512) (e : Fin 2048) : EReal :=
  x3 (ix2 a e) + g (ix2 0 e) * acc (ix2 a e)

/-- The output block, entry by entry. -/
theorem out_apply (x3 : FVec Ideal S512x2048 .f32) (g : FVec Ideal S1x2048 .f32) (acc : FVec Ideal S512x2048 .f32) (fg : FVec Ideal S1x2048 .f32)
    (a : Fin 512) (e : Fin 2048) :
    k0_pay2 (F := Ideal) x3 g acc fg (ix2 a e) = resid x3 g acc a e
        * Ideal.rsqrt (Ideal.div (∑ d : Fin 2048, resid x3 g acc a d * resid x3 g acc a d) (Ideal.ofBits .f32 0x45000000#32) + Ideal.ofBits .f32 0x358637BD#32)
        * fg (ix2 0 e) := by
  unfold resid
  pointwise [k0_pay2]

theorem zero_apply (j : S512x2048.Idx) : k0_pay7 (F := Ideal) j = 0 := by
  unfold k0_pay7
  rw [shapeCast_self]
  show Ideal.ofBits .f32 0x00000000#32 = 0
  simp [Ideal.ofBits, Ideal.ieee, -EReal.coe_mul]

end Cert.Proof.FfnTile

end
-- ==== Proof.FfnBlocks.lean ====
/-
  What each point of the feed-forward kernel's grid finds in its input blocks: entries of the arguments, zero past the arguments' ends.
-/
module

public import proofs.«01_k».proof.Proof.FfnTile

@[expose] public section

set_option maxRecDepth 16384

noncomputable section

namespace Cert.Proof.FfnBlocks

open Cert.Kernel2Ideal Cert.Kernel2Ideal.Gen
open Idealize.ShloMosaic Idealize.ShloMosaic.TcCoe Idealize.SL.Sem

theorem pad_zero : FloatOps.sitofp (F := Ideal) FTy.f32 0#32 = 0 := by
  show ((((0#32 : BitVec 32).toInt : ℝ)) : EReal) = 0
  norm_num

/-! ## The host's preparation of the weights -/

/-- A wide weight, zero columns added. -/
def wide (w : FVec Ideal S1x2048x5504 .f32) : FVec Ideal S2048x5632 .bf16 :=
  truncf .bf16 (pad S2048x5632 ![0, 0] ![0, 128] ![0, 0] (shapeCast S2048x5504 w shapeCasts_S1x2048x5504_S2048x5504)
    (sitofp .f32 (constantI S_ 32 0#32)) pads_S2048x5504_S2048x5632_000_01280 h_S_) bitsLt_bf16_f32

/-- The weight back, zero rows added. -/
def tall (w : FVec Ideal S1x5504x2048 .f32) : FVec Ideal S5632x2048 .bf16 :=
  truncf .bf16 (pad S5632x2048 ![0, 0] ![128, 0] ![0, 0] (shapeCast S5504x2048 w shapeCasts_S1x5504x2048_S5504x2048)
    (sitofp .f32 (constantI S_ 32 0#32)) pads_S5504x2048_S5632x2048_01280_000 h_S_) bitsLt_bf16_f32

/-- The convolution's taps, zero columns added. -/
def tapsP (w : FVec Ideal S1x3x5504 .f32) : FVec Ideal S3x5632 .f32 :=
  pad S3x5632 ![0, 0] ![0, 128] ![0, 0] (shapeCast S3x5504 w shapeCasts_S1x3x5504_S3x5504)
    (sitofp .f32 (constantI S_ 32 0#32)) pads_S3x5504_S3x5632_000_01280 h_S_

/-- The convolution's bias, zero columns added. -/
def biasP (w : FVec Ideal S1x5504 .f32) : FVec Ideal S1x5632 .f32 :=
  shapeCast S1x5632 (pad S5632 ![0] ![128] ![0] (shapeCast S5504 w shapeCasts_S1x5504_S5504)
    (sitofp .f32 (constantI S_ 32 0#32)) pads_S5504_S5632_01280 h_S_) shapeCasts_S5632_S1x5632

theorem wide_apply (w : FVec Ideal S1x2048x5504 .f32) (a : Fin 2048) (j : Fin 5632) :
    wide w (ix2 a j) = if h : j.val < 5504 then w (ix3 0 a ⟨j.val, h⟩) else 0 := by
  pointwise [wide]
  rw [pad_zero]

theorem tall_apply (w : FVec Ideal S1x5504x2048 .f32) (j : Fin 5632) (e : Fin 2048) :
    tall w (ix2 j e) = if h : j.val < 5504 then w (ix3 0 ⟨j.val, h⟩ e) else 0 := by
  pointwise [tall]
  rw [pad_zero]

theorem tapsP_apply (w : FVec Ideal S1x3x5504 .f32) (r : Fin 3) (j : Fin 5632) :
    tapsP w (ix2 r j) = if h : j.val < 5504 then w (ix3 0 r ⟨j.val, h⟩) else 0 := by
  pointwise [tapsP]
  rw [pad_zero]

theorem biasP_apply (w : FVec Ideal S1x5504 .f32) (j : Fin 5632) :
    biasP w (ix2 0 j) = if h : j.val < 5504 then w (ix2 0 ⟨j.val, h⟩) else 0 := by
  pointwise [biasP]
  rw [pad_zero]

theorem row_apply (w : FVec Ideal S2048 .f32) (e : Fin 2048) : shapeCast S1x2048 w shapeCasts_S2048_S1x2048 (ix2 0 e) = w (ix1 e) := by
  pointwise

variable (m : (ℓ : Loc nD τ sig) → Buf (Elt Ideal) ℓ) (c : Dev nD)

theorem V_main_v2 : V m c main_v2 = wide (m ((c : Thread nD τ).loc main_arg2)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl

theorem V_main_v5 : V m c main_v5 = wide (m ((c : Thread nD τ).loc main_arg3)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl

theorem V_main_v8 : V m c main_v8 = tall (m ((c : Thread nD τ).loc main_arg6)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl

theorem V_main_v10 : V m c main_v10 = tapsP (m ((c : Thread nD τ).loc main_arg4)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl

theorem V_main_v13 : V m c main_v13 = biasP (m ((c : Thread nD τ).loc main_arg5)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl

theorem V_main_v14 : V m c main_v14 = shapeCast S1x2048 (m ((c : Thread nD τ).loc main_arg8)) shapeCasts_S2048_S1x2048 := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl

/-! ## Which block a point finds -/

theorem coord0 : ∀ t : Fin cfg0.N, (grid0.coords t 0).val = t.val / 11 := by decide +kernel

theorem index0 : ∀ t : Fin cfg0.N, win0_0.index t 0 = t.val / 11 ∧ win0_0.index t 1 = 0 := by decide +kernel
theorem index1 : ∀ t : Fin cfg0.N, win0_1.index t 0 = 32 * (t.val / 11) - 1 ∧ win0_1.index t 1 = 0 := by decide +kernel
theorem index2 : ∀ t : Fin cfg0.N, win0_2.index t 0 = min (32 * (t.val / 11) + 32) 1023 ∧ win0_2.index t 1 = 0 := by decide +kernel
theorem index3 : ∀ t : Fin cfg0.N, win0_3.index t 0 = t.val / 11 ∧ win0_3.index t 1 = 0 := by decide +kernel
theorem index4 : ∀ t : Fin cfg0.N, win0_4.index t 0 = 0 ∧ win0_4.index t 1 = t.val % 11 := by decide +kernel
theorem index5 : ∀ t : Fin cfg0.N, win0_5.index t 0 = 0 ∧ win0_5.index t 1 = t.val % 11 := by decide +kernel
theorem index6 : ∀ t : Fin cfg0.N, win0_6.index t 0 = t.val % 11 ∧ win0_6.index t 1 = 0 := by decide +kernel
theorem index7 : ∀ t : Fin cfg0.N, win0_7.index t 0 = 0 ∧ win0_7.index t 1 = t.val % 11 := by decide +kernel
theorem index8 : ∀ t : Fin cfg0.N, win0_8.index t 0 = 0 ∧ win0_8.index t 1 = t.val % 11 := by decide +kernel
theorem index9 : ∀ t : Fin cfg0.N, win0_9.index t 0 = 0 ∧ win0_9.index t 1 = 0 := by decide +kernel
theorem index10 : ∀ t : Fin cfg0.N, win0_10.index t 0 = 0 ∧ win0_10.index t 1 = 0 := by decide +kernel
theorem index11 : ∀ t : Fin cfg0.N, win0_11.index t 0 = t.val / 11 ∧ win0_11.index t 1 = 0 := by decide +kernel

theorem point_lt (t : Fin cfg0.N) : t.val < 352 := lt_of_lt_of_eq t.isLt N_0

/-! ## The blocks' entries -/

theorem block0 (t : Fin cfg0.N) (a : Fin 512) (d : Fin 2048) : iblk m c 0 t (ix2 a d) = m ((c : Thread nD τ).loc main_arg0) (ix2 ⟨512 * (t.val / 11) + a.val, by have := point_lt t; omega⟩ d) := by
  have he : iblk m c 0 t (ix2 a d) = V m c main_arg0 ((win0_0.rect t).emb (ix2 a d)) := rfl
  rw [he, V_main_arg0]
  refine congrArg _ (funext fun b => Fin.ext ?_)
  obtain ⟨h0, h1⟩ := index0 t
  have := point_lt t
  match b with
  | 0 => show win0_0.index t 0 * 512 + 1 * a.val = 512 * (t.val / 11) + a.val; omega
  | 1 => show win0_0.index t 1 * 2048 + 1 * d.val = d.val; omega

theorem block1 (t : Fin cfg0.N) (h : t.val / 11 ≠ 0) (d : Fin 2048) : iblk m c 1 t (ix2 (15 : Fin 16) d) = m ((c : Thread nD τ).loc main_arg0) (ix2 ⟨512 * (t.val / 11) - 1, by have := point_lt t; omega⟩ d) := by
  have he : iblk m c 1 t (ix2 (15 : Fin 16) d) = V m c main_arg0 ((win0_1.rect t).emb (ix2 (15 : Fin 16) d)) := rfl
  rw [he, V_main_arg0]
  refine congrArg _ (funext fun b => Fin.ext ?_)
  obtain ⟨h0, h1⟩ := index1 t
  have := point_lt t
  match b with
  | 0 => show win0_1.index t 0 * 16 + 1 * 15 = 512 * (t.val / 11) - 1; omega
  | 1 => show win0_1.index t 1 * 2048 + 1 * d.val = d.val; omega

theorem block2 (t : Fin cfg0.N) (h : t.val / 11 ≠ 31) (d : Fin 2048) : iblk m c 2 t (ix2 (0 : Fin 16) d) = m ((c : Thread nD τ).loc main_arg0) (ix2 ⟨512 * (t.val / 11) + 512, by have := point_lt t; omega⟩ d) := by
  have he : iblk m c 2 t (ix2 (0 : Fin 16) d) = V m c main_arg0 ((win0_2.rect t).emb (ix2 (0 : Fin 16) d)) := rfl
  rw [he, V_main_arg0]
  refine congrArg _ (funext fun b => Fin.ext ?_)
  obtain ⟨h0, h1⟩ := index2 t
  have := point_lt t
  match b with
  | 0 => show win0_2.index t 0 * 16 + 1 * 0 = 512 * (t.val / 11) + 512; omega
  | 1 => show win0_2.index t 1 * 2048 + 1 * d.val = d.val; omega

theorem block3 (t : Fin cfg0.N) (a : Fin 512) (d : Fin 2048) : iblk m c 3 t (ix2 a d) = m ((c : Thread nD τ).loc main_arg1) (ix2 ⟨512 * (t.val / 11) + a.val, by have := point_lt t; omega⟩ d) := by
  have he : iblk m c 3 t (ix2 a d) = V m c main_arg1 ((win0_3.rect t).emb (ix2 a d)) := rfl
  rw [he, V_main_arg1]
  refine congrArg _ (funext fun b => Fin.ext ?_)
  obtain ⟨h0, h1⟩ := index3 t
  have := point_lt t
  match b with
  | 0 => show win0_3.index t 0 * 512 + 1 * a.val = 512 * (t.val / 11) + a.val; omega
  | 1 => show win0_3.index t 1 * 2048 + 1 * d.val = d.val; omega

theorem block4 (t : Fin cfg0.N) (d : Fin 2048) (k : Fin 512) : iblk m c 4 t (ix2 d k) = wide (m ((c : Thread nD τ).loc main_arg2)) (ix2 d ⟨512 * (t.val % 11) + k.val, by omega⟩) := by
  have he : iblk m c 4 t (ix2 d k) = V m c main_v2 ((win0_4.rect t).emb (ix2 d k)) := rfl
  rw [he, V_main_v2]
  refine congrArg _ (funext fun b => Fin.ext ?_)
  obtain ⟨h0, h1⟩ := index4 t
  have := point_lt t
  match b with
  | 0 => show win0_4.index t 0 * 2048 + 1 * d.val = d.val; omega
  | 1 => show win0_4.index t 1 * 512 + 1 * k.val = 512 * (t.val % 11) + k.val; omega

theorem block5 (t : Fin cfg0.N) (d : Fin 2048) (k : Fin 512) : iblk m c 5 t (ix2 d k) = wide (m ((c : Thread nD τ).loc main_arg3)) (ix2 d ⟨512 * (t.val % 11) + k.val, by omega⟩) := by
  have he : iblk m c 5 t (ix2 d k) = V m c main_v5 ((win0_5.rect t).emb (ix2 d k)) := rfl
  rw [he, V_main_v5]
  refine congrArg _ (funext fun b => Fin.ext ?_)
  obtain ⟨h0, h1⟩ := index5 t
  have := point_lt t
  match b with
  | 0 => show win0_5.index t 0 * 2048 + 1 * d.val = d.val; omega
  | 1 => show win0_5.index t 1 * 512 + 1 * k.val = 512 * (t.val % 11) + k.val; omega

theorem block6 (t : Fin cfg0.N) (k : Fin 512) (e : Fin 2048) : iblk m c 6 t (ix2 k e) = tall (m ((c : Thread nD τ).loc main_arg6)) (ix2 ⟨512 * (t.val % 11) + k.val, by omega⟩ e) := by
  have he : iblk m c 6 t (ix2 k e) = V m c main_v8 ((win0_6.rect t).emb (ix2 k e)) := rfl
  rw [he, V_main_v8]
  refine congrArg _ (funext fun b => Fin.ext ?_)
  obtain ⟨h0, h1⟩ := index6 t
  have := point_lt t
  match b with
  | 0 => show win0_6.index t 0 * 512 + 1 * k.val = 512 * (t.val % 11) + k.val; omega
  | 1 => show win0_6.index t 1 * 2048 + 1 * e.val = e.val; omega

theorem block7 (t : Fin cfg0.N) (r : Fin 3) (k : Fin 512) : iblk m c 7 t (ix2 r k) = tapsP (m ((c : Thread nD τ).loc main_arg4)) (ix2 r ⟨512 * (t.val % 11) + k.val, by omega⟩) := by
  have he : iblk m c 7 t (ix2 r k) = V m c main_v10 ((win0_7.rect t).emb (ix2 r k)) := rfl
  rw [he, V_main_v10]
  refine congrArg _ (funext fun b => Fin.ext ?_)
  obtain ⟨h0, h1⟩ := index7 t
  have := point_lt t
  match b with
  | 0 => show win0_7.index t 0 * 3 + 1 * r.val = r.val; omega
  | 1 => show win0_7.index t 1 * 512 + 1 * k.val = 512 * (t.val % 11) + k.val; omega

theorem block8 (t : Fin cfg0.N) (k : Fin 512) : iblk m c 8 t (ix2 (0 : Fin 1) k) = biasP (m ((c : Thread nD τ).loc main_arg5)) (ix2 (0 : Fin 1) ⟨512 * (t.val % 11) + k.val, by omega⟩) := by
  have he : iblk m c 8 t (ix2 (0 : Fin 1) k) = V m c main_v13 ((win0_8.rect t).emb (ix2 (0 : Fin 1) k)) := rfl
  rw [he, V_main_v13]
  refine congrArg _ (funext fun b => Fin.ext ?_)
  obtain ⟨h0, h1⟩ := index8 t
  have := point_lt t
  match b with
  | 0 => show win0_8.index t 0 * 1 + 1 * 0 = 0; omega
  | 1 => show win0_8.index t 1 * 512 + 1 * k.val = 512 * (t.val % 11) + k.val; omega

theorem block9 (t : Fin cfg0.N) (e : Fin 2048) : iblk m c 9 t (ix2 (0 : Fin 1) e) = m ((c : Thread nD τ).loc main_arg7) (ix2 (0 : Fin 1) e) := by
  have he : iblk m c 9 t (ix2 (0 : Fin 1) e) = V m c main_arg7 ((win0_9.rect t).emb (ix2 (0 : Fin 1) e)) := rfl
  rw [he, V_main_arg7]
  refine congrArg _ (funext fun b => Fin.ext ?_)
  obtain ⟨h0, h1⟩ := index9 t
  have := point_lt t
  match b with
  | 0 => show win0_9.index t 0 * 1 + 1 * 0 = 0; omega
  | 1 => show win0_9.index t 1 * 2048 + 1 * e.val = e.val; omega

theorem block10 (t : Fin cfg0.N) (e : Fin 2048) : iblk m c 10 t (ix2 (0 : Fin 1) e) = m ((c : Thread nD τ).loc main_arg8) (ix1 e) := by
  have he : iblk m c 10 t (ix2 (0 : Fin 1) e) = V m c main_v14 ((win0_10.rect t).emb (ix2 (0 : Fin 1) e)) := rfl
  rw [he, V_main_v14, ← row_apply (m ((c : Thread nD τ).loc main_arg8))]
  refine congrArg _ (funext fun b => Fin.ext ?_)
  obtain ⟨h0, h1⟩ := index10 t
  have := point_lt t
  match b with
  | 0 => show win0_10.index t 0 * 1 + 1 * 0 = 0; omega
  | 1 => show win0_10.index t 1 * 2048 + 1 * e.val = e.val; omega

end Cert.Proof.FfnBlocks

end
-- ==== Proof.FfnSweep.lean ====
/-
  The feed-forward kernel's scratch after each point of its grid: the framed rows of the point's block, and the sum over the wide columns done so far.
-/
module

public import proofs.«01_k».proof.Proof.FfnBlocks

@[expose] public section

set_option maxRecDepth 16384

noncomputable section

namespace Cert.Proof.FfnSweep

open Cert.Kernel2Ideal Cert.Kernel2Ideal.Gen
open Idealize.ShloMosaic Idealize.ShloMosaic.TcCoe Idealize.SL.Sem
open Cert.Proof.Gelu Cert.Proof.FfnTile Cert.Proof.FfnBlocks Cert.Proof.FfnPoint

section Spec
variable (H : FVec Ideal S16384x2048 .bf16) (wu wg : FVec Ideal S1x2048x5504 .f32) (cw : FVec Ideal S1x3x5504 .f32) (cb : FVec Ideal S1x5504 .f32)
  (wd : FVec Ideal S1x5504x2048 .f32)

/-- The rows with a zero row before them and zero rows after. -/
def hx (n : ℕ) (d : Fin 2048) : EReal := if h : 1 ≤ n ∧ n - 1 < 16384 then H (ix2 ⟨n - 1, h.2⟩ d) else 0

theorem hx_in (n : ℕ) (d : Fin 2048) (k : Fin 16384) (h : n = k.val + 1) : hx H n d = H (ix2 k d) := by
  subst h
  unfold hx
  rw [dif_pos ⟨by omega, by simp⟩]
  rfl

theorem hx_out (n : ℕ) (d : Fin 2048) (h : n = 0 ∨ n = 16385) : hx H n d = 0 := by
  unfold hx
  rw [dif_neg (by omega)]

/-- The gate's framed rows at a padded wide column. -/
def gateP (n : ℕ) (j : Fin 5632) : EReal := ∑ d : Fin 2048, hx H n d * wide wg (ix2 d j)

/-- The convolution at a padded wide column. -/
def convP (n : ℕ) (j : Fin 5632) : EReal :=
  biasP cb (ix2 0 j) + tapsP cw (ix2 0 j) * gateP H wg n j + tapsP cw (ix2 1 j) * gateP H wg (n + 1) j + tapsP cw (ix2 2 j) * gateP H wg (n + 2) j

/-- A wide column's share of the projection back. -/
def colTerm (n : Fin 16384) (e : Fin 2048) (j : ℕ) : EReal :=
  if h : j < 5632 then viaExp kap kapc (convP H wg cw cb n.val ⟨j, h⟩) * (∑ d : Fin 2048, H (ix2 n d) * wide wu (ix2 d ⟨j, h⟩)) * tall wd (ix2 ⟨j, h⟩ e)
  else 0

end Spec

variable (m : (ℓ : Loc nD τ sig) → Buf (Elt Ideal) ℓ) (c : Dev nD)

/-- Column `j`'s share at row `n`, of the arguments. -/
abbrev term (n : Fin 16384) (e : Fin 2048) (j : ℕ) : EReal :=
  colTerm (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) n e j

/-- The row of the arguments that row `a` of the point's block is. -/
def rowOf (t : Fin cfg0.N) (a : Fin 512) : Fin 16384 := ⟨512 * (t.val / 11) + a.val, by have := point_lt t; omega⟩

/-- The rows scratch holds the framed rows of block `i`. -/
def Holds (i : ℕ) (he : FVec Ideal S544x2048 .bf16) : Prop :=
  ∀ (q : Fin 514) (d : Fin 2048), he (ix2 ⟨15 + q.val, by omega⟩ d) = hx (m ((c : Thread nD τ).loc main_arg0)) (512 * i + q.val) d

/-- A first point lays the framed rows. -/
theorem rows_hold (t : Fin cfg0.N) : Holds m c (t.val / 11) (rows (F := Ideal) (grid0.coords t) (iblk m c 0 t) (iblk m c 1 t) (iblk m c 2 t)) := by
  intro q d
  have ht := point_lt t
  have hc := coord0 t
  rcases Nat.lt_or_ge q.val 1 with h | h
  · rw [rows_before _ _ _ _ _ _ (by show 15 + q.val = 15; omega), hc]
    by_cases h0 : t.val / 11 = 0
    · rw [if_pos h0, hx_out _ _ _ (by omega)]
    · rw [if_neg h0, block1 m c t h0, hx_in _ _ _ ⟨512 * (t.val / 11) - 1, by omega⟩ (by show 512 * (t.val / 11) + q.val = 512 * (t.val / 11) - 1 + 1; omega)]
  · rcases Nat.lt_or_ge q.val 513 with h' | h'
    · rw [rows_mid _ _ _ _ _ ⟨q.val - 1, by omega⟩ _ (by show 15 + q.val = 16 + (q.val - 1); omega), block0 m c t]
      rw [hx_in _ _ _ ⟨512 * (t.val / 11) + (q.val - 1), by omega⟩ (by show 512 * (t.val / 11) + q.val = 512 * (t.val / 11) + (q.val - 1) + 1; omega)]
    · rw [rows_after _ _ _ _ _ _ (by show 15 + q.val = 528; omega), hc]
      by_cases h0 : t.val / 11 = 31
      · rw [if_pos h0, hx_out _ _ _ (by omega)]
      · rw [if_neg h0, block2 m c t h0, hx_in _ _ _ ⟨512 * (t.val / 11) + 512, by omega⟩ (by show 512 * (t.val / 11) + q.val = 512 * (t.val / 11) + 512 + 1; omega)]

/-- A point's convolution, its blocks' entries given. -/
theorem cv_eq (H : FVec Ideal S16384x2048 .bf16) (wg : FVec Ideal S1x2048x5504 .f32) (cw : FVec Ideal S1x3x5504 .f32) (cb : FVec Ideal S1x5504 .f32)
    (x5 : FVec Ideal S2048x512 .bf16) (x7 : FVec Ideal S3x512 .f32) (x8 : FVec Ideal S1x512 .f32) (he : FVec Ideal S544x2048 .bf16)
    (i : ℕ) (a k : Fin 512) (j : Fin 5632) (hhe : ∀ (q : Fin 514) (d : Fin 2048), he (ix2 ⟨15 + q.val, by omega⟩ d) = hx H (512 * i + q.val) d)
    (h5 : ∀ d : Fin 2048, x5 (ix2 d k) = wide wg (ix2 d j)) (h7 : ∀ r : Fin 3, x7 (ix2 r k) = tapsP cw (ix2 r j)) (h8 : x8 (ix2 0 k) = biasP cb (ix2 0 j)) :
    cv x5 x7 x8 he a k = convP H wg cw cb (512 * i + a.val) j := by
  have g : ∀ (q : Fin 514) (r : Fin 544) (n : ℕ), r.val = 15 + q.val → n = 512 * i + q.val →
      (∑ d : Fin 2048, he (ix2 r d) * x5 (ix2 d k)) = gateP H wg n j := by
    intro q r n hr hn
    have hq : 15 + q.val < 544 := by omega
    have hr' : r = ⟨15 + q.val, hq⟩ := Fin.ext hr
    rw [hr', hn]
    unfold gateP
    exact Finset.sum_congr rfl fun d _ => by rw [hhe q d, h5 d]
  unfold cv convP
  rw [h8, h7, h7, h7, g ⟨a.val, by omega⟩ ⟨15 + a.val, by omega⟩ (512 * i + a.val) rfl rfl,
    g ⟨a.val + 1, by omega⟩ ⟨16 + a.val, by omega⟩ (512 * i + a.val + 1) (by show 16 + a.val = 15 + (a.val + 1); omega) rfl,
    g ⟨a.val + 2, by omega⟩ ⟨17 + a.val, by omega⟩ (512 * i + a.val + 2) (by show 17 + a.val = 15 + (a.val + 2); omega) rfl]

/-- A step's added sum, its blocks' entries given. -/
theorem share_eq (H : FVec Ideal S16384x2048 .bf16) (wu wg : FVec Ideal S1x2048x5504 .f32) (cw : FVec Ideal S1x3x5504 .f32) (cb : FVec Ideal S1x5504 .f32)
    (wd : FVec Ideal S1x5504x2048 .f32) (x0 : FVec Ideal S512x2048 .bf16) (x4 x5 : FVec Ideal S2048x512 .bf16) (x6 : FVec Ideal S512x2048 .bf16)
    (x7 : FVec Ideal S3x512 .f32) (x8 : FVec Ideal S1x512 .f32) (he : FVec Ideal S544x2048 .bf16) (acc : FVec Ideal S512x2048 .f32)
    (i f : ℕ) (hf : f < 11) (a : Fin 512) (e : Fin 2048) (n : Fin 16384) (hn : n.val = 512 * i + a.val)
    (hhe : ∀ (q : Fin 514) (d : Fin 2048), he (ix2 ⟨15 + q.val, by omega⟩ d) = hx H (512 * i + q.val) d)
    (h0 : ∀ d : Fin 2048, x0 (ix2 a d) = H (ix2 n d))
    (h4 : ∀ (d : Fin 2048) (k : Fin 512), x4 (ix2 d k) = wide wu (ix2 d ⟨512 * f + k.val, by omega⟩))
    (h5 : ∀ (d : Fin 2048) (k : Fin 512), x5 (ix2 d k) = wide wg (ix2 d ⟨512 * f + k.val, by omega⟩))
    (h6 : ∀ k : Fin 512, x6 (ix2 k e) = tall wd (ix2 ⟨512 * f + k.val, by omega⟩ e))
    (h7 : ∀ (r : Fin 3) (k : Fin 512), x7 (ix2 r k) = tapsP cw (ix2 r ⟨512 * f + k.val, by omega⟩))
    (h8 : ∀ k : Fin 512, x8 (ix2 0 k) = biasP cb (ix2 0 ⟨512 * f + k.val, by omega⟩)) :
    step (F := Ideal) x0 x4 x5 x6 x7 x8 he acc (ix2 a e) = acc (ix2 a e) + ∑ k : Fin 512, colTerm H wu wg cw cb wd n e (512 * f + k.val) := by
  rw [step_apply]
  congr 1
  refine Finset.sum_congr rfl fun k _ => ?_
  have hj : 512 * f + k.val < 5632 := by omega
  unfold colTerm
  rw [dif_pos hj, h6 k, cv_eq H wg cw cb x5 x7 x8 he i a k ⟨512 * f + k.val, hj⟩ hhe (fun d => h5 d k) (fun r => h7 r k) (h8 k), hn]
  congr 2
  exact Finset.sum_congr rfl fun d _ => by rw [h0 d, h4 d k]

/-- A step of a point adds its 512 columns' shares. -/
theorem step_eq (t : Fin cfg0.N) (he : FVec Ideal S544x2048 .bf16) (hhe : Holds m c (t.val / 11) he) (acc : FVec Ideal S512x2048 .f32)
    (a : Fin 512) (e : Fin 2048) :
    step (F := Ideal) (iblk m c 0 t) (iblk m c 4 t) (iblk m c 5 t) (iblk m c 6 t) (iblk m c 7 t) (iblk m c 8 t) he acc (ix2 a e)
      = acc (ix2 a e) + ∑ k : Fin 512, term m c (rowOf t a) e (512 * (t.val % 11) + k.val) :=
  share_eq (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) _ _ _ _ _ _ he acc (t.val / 11) (t.val % 11) (Nat.mod_lt _ (by decide)) a e
    (rowOf t a) rfl hhe (fun d => block0 m c t a d) (fun d k => block4 m c t d k) (fun d k => block5 m c t d k) (fun k => block6 m c t k e)
    (fun r k => block7 m c t r k) (fun k => block8 m c t k)

/-- The sum so far grows by 512 columns a point. -/
theorem sum_grow (f : ℕ → EReal) (n : ℕ) : (∑ j ∈ Finset.range (512 * n), f j) + ∑ k : Fin 512, f (512 * n + k.val) = ∑ j ∈ Finset.range (512 * (n + 1)), f j := by
  rw [Nat.mul_succ, Finset.sum_range_add, ← Fin.sum_univ_eq_sum_range (fun k => f (512 * n + k)) 512]

/-- The accumulator holds the columns' shares up to the point. -/
def Sums (t : Fin cfg0.N) (acc : FVec Ideal S512x2048 .f32) : Prop :=
  ∀ (a : Fin 512) (e : Fin 2048), acc (ix2 a e) = ∑ j ∈ Finset.range (512 * (t.val % 11 + 1)), term m c (rowOf t a) e j

/-- A step from the sum up to the point before is the sum up to the point. -/
theorem sums_next (t p : Fin cfg0.N) (hd : t.val / 11 = p.val / 11) (hm : t.val % 11 = p.val % 11 + 1) (he : FVec Ideal S544x2048 .bf16)
    (hhe : Holds m c (p.val / 11) he) (acc : FVec Ideal S512x2048 .f32) (ha : Sums m c p acc) :
    Sums m c t (step (F := Ideal) (iblk m c 0 t) (iblk m c 4 t) (iblk m c 5 t) (iblk m c 6 t) (iblk m c 7 t) (iblk m c 8 t) he acc) := by
  intro a e
  have hr : rowOf t a = rowOf p a := Fin.ext (by show 512 * (t.val / 11) + a.val = 512 * (p.val / 11) + a.val; rw [hd])
  rw [step_eq m c t he (by rw [hd]; exact hhe), ha a e, hr, ← hm, sum_grow]

/-- Both scratch buffers after every point. -/
theorem after_point : ∀ (n : ℕ) (h : n < cfg0.N), Holds m c (n / 11) (outsAt0 m c n h).2.1 ∧ Sums m c ⟨n, h⟩ (outsAt0 m c n h).2.2 := by
  intro n
  induction n with
  | zero =>
    intro h
    rw [outsAt0_A m c ⟨0, h⟩ (Nat.zero_mod _) (by show ¬(0 % 11 = 10); omega)]
    dsimp only
    rw [rows_first, acc_first]
    refine ⟨rows_hold m c ⟨0, h⟩, fun a e => ?_⟩
    rw [step_eq m c ⟨0, h⟩ _ (rows_hold m c ⟨0, h⟩), zero_apply]
    have := sum_grow (term m c (rowOf ⟨0, h⟩ a) e) 0
    simpa using this
  | succ n ih =>
    intro h
    obtain ⟨ih1, ih2⟩ := ih (Nat.lt_of_succ_lt h)
    by_cases h0 : (n + 1) % 11 = 0
    · rw [outsAt0_A m c ⟨n + 1, h⟩ h0 (by show ¬((n + 1) % 11 = 10); omega)]
      dsimp only
      rw [rows_first, acc_first]
      refine ⟨rows_hold m c ⟨n + 1, h⟩, fun a e => ?_⟩
      rw [step_eq m c ⟨n + 1, h⟩ _ (rows_hold m c ⟨n + 1, h⟩), zero_apply]
      have := sum_grow (term m c (rowOf ⟨n + 1, h⟩ a) e) 0
      simpa [h0] using this
    · have hd : (n + 1) / 11 = n / 11 := by omega
      have hm : (n + 1) % 11 = n % 11 + 1 := by omega
      by_cases h1 : (n + 1) % 11 = 10
      · rw [outsAt0_C m c ⟨n + 1, h⟩ h0 h1]
        dsimp only
        rw [acc_last]
        exact ⟨by rw [hd]; exact ih1, sums_next m c ⟨n + 1, h⟩ ⟨n, Nat.lt_of_succ_lt h⟩ hd hm _ ih1 _ ih2⟩
      · rw [outsAt0_B m c ⟨n + 1, h⟩ h0 h1]
        dsimp only
        rw [acc_middle]
        exact ⟨by rw [hd]; exact ih1, sums_next m c ⟨n + 1, h⟩ ⟨n, Nat.lt_of_succ_lt h⟩ hd hm _ ih1 _ ih2⟩

end Cert.Proof.FfnSweep

end
-- ==== Proof.FfnReference.lean ====
/-
  What the feed-forward call's reference computes over the extended reals, entry by entry, its stages named.
-/
module

public import proofs.«01_k».proof.Proof.Gelu
public import proofs.«01_k».proof.Proof.Gen.Reference2Ideal.Run

@[expose] public section

set_option maxRecDepth 16384

noncomputable section

namespace Cert.Proof.FfnReference

open Cert.Reference2Ideal Cert.Reference2Ideal.Gen
open Idealize.ShloMosaic Idealize.ShloMosaic.TcCoe Idealize.SL.Sem
open Cert.Proof.Gelu

/-- A projection of the rows to the wide axis. -/
def proj (h : FVec Ideal S16384x2048 .bf16) (w : FVec Ideal S1x2048x5504 .f32) : FVec Ideal S16384x5504 .f32 :=
  Host.dotGeneral dot_S16384x2048_S2048x5504_S16384x5504_1_0_0_1_n_n none (extf .f32 h bitsLt_bf16_f32)
    (shapeCast S2048x5504 w shapeCasts_S1x2048x5504_S2048x5504)

/-- The rows with a row of zeros before them and one after. -/
def framed (g : FVec Ideal S16384x5504 .f32) : FVec Ideal S16386x5504 .f32 :=
  pad S16386x5504 ![1, 0] ![1, 0] ![0, 0] g (sitofp .f32 (constantI S_ 32 0#32)) pads_S16384x5504_S16386x5504_110_000 h_S_

/-- The convolution of the framed rows by three taps. -/
def conv (g : FVec Ideal S16386x5504 .f32) (cw : FVec Ideal S1x3x5504 .f32) (cb : FVec Ideal S1x5504 .f32) : FVec Ideal S16384x5504 .f32 :=
  addf (addf (addf (broadcastInDim S16384x5504 ![0, 1] bcast_S1x5504_S16384x5504_0_1 (broadcastInDim S1x5504 ![1] bcast_S5504_S1x5504_1
        (shapeCast S5504 cb shapeCasts_S1x5504_S5504)))
      (mulf (extractStridedSlice S16384x5504 ![0, 0] g slices_S16386x5504_S16384x5504_0_0)
        (broadcastInDim S16384x5504 ![0, 1] bcast_S1x5504_S16384x5504_0_1 (broadcastInDim S1x5504 ![1] bcast_S5504_S1x5504_1 (shapeCast S5504
          (extractStridedSlice S1x5504 ![0, 0] (shapeCast S3x5504 cw shapeCasts_S1x3x5504_S3x5504) slices_S3x5504_S1x5504_0_0) shapeCasts_S1x5504_S5504)))))
      (mulf (extractStridedSlice S16384x5504 ![1, 0] g slices_S16386x5504_S16384x5504_1_0)
        (broadcastInDim S16384x5504 ![0, 1] bcast_S1x5504_S16384x5504_0_1 (broadcastInDim S1x5504 ![1] bcast_S5504_S1x5504_1 (shapeCast S5504
          (extractStridedSlice S1x5504 ![1, 0] (shapeCast S3x5504 cw shapeCasts_S1x3x5504_S3x5504) slices_S3x5504_S1x5504_1_0) shapeCasts_S1x5504_S5504)))))
    (mulf (extractStridedSlice S16384x5504 ![2, 0] g slices_S16386x5504_S16384x5504_2_0)
      (broadcastInDim S16384x5504 ![0, 1] bcast_S1x5504_S16384x5504_0_1 (broadcastInDim S1x5504 ![1] bcast_S5504_S1x5504_1 (shapeCast S5504
        (extractStridedSlice S1x5504 ![2, 0] (shapeCast S3x5504 cw shapeCasts_S1x3x5504_S3x5504) slices_S3x5504_S1x5504_2_0) shapeCasts_S1x5504_S5504))))

/-- The activation. -/
def gelu (x : FVec Ideal S16384x5504 .f32) : FVec Ideal S16384x5504 .f32 :=
  mulf x (mulf (broadcastInDim S16384x5504 ![] bcast_S_S16384x5504 (constant S_ .f32 0x3F000000#32))
    (addf (broadcastInDim S16384x5504 ![] bcast_S_S16384x5504 (constant S_ .f32 0x3F800000#32))
      (Host.tanh (mulf (broadcastInDim S16384x5504 ![] bcast_S_S16384x5504 (constant S_ .f32 0x3F4C422A#32))
        (addf x (mulf (broadcastInDim S16384x5504 ![] bcast_S_S16384x5504 (constant S_ .f32 0x3D372713#32)) (mulf (mulf x x) x)))))))

/-- The projection back, scaled by column, added to the residual rows. -/
def back (x : FVec Ideal S16384x2048 .f32) (g2 : FVec Ideal S1x2048 .f32) (act : FVec Ideal S16384x5504 .f32) (wd : FVec Ideal S1x5504x2048 .f32) :
    FVec Ideal S16384x2048 .f32 :=
  addf x (mulf (broadcastInDim S16384x2048 ![0, 1] bcast_S1x2048_S16384x2048_0_1 g2)
    (Host.dotGeneral dot_S16384x5504_S5504x2048_S16384x2048_1_0_0_1_n_n none act (shapeCast S5504x2048 wd shapeCasts_S1x5504x2048_S5504x2048)))

/-- Each row normalised, scaled by column. -/
def normed (x : FVec Ideal S16384x2048 .f32) (fg : FVec Ideal S2048 .f32) : FVec Ideal S16384x2048 .f32 :=
  mulf (mulf x (broadcastInDim S16384x2048 ![0, 1] bcast_S16384x1_S16384x2048_0_1 (Host.rsqrt (addf (Host.divf
      (broadcastInDim S16384x1 ![0] bcast_S16384_S16384x1_0 (Host.reduceAdd (mulf x x) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 fg))

/-- The reference's result is its stages in order. -/
theorem result_eq (m : (ℓ : Loc nD τ sig) → Buf (Elt Ideal) ℓ) (c : Dev nD) :
    Value.res_out0 m c = normed (back (m ((c.tc : Thread nD τ).loc main_arg1)) (m ((c.tc : Thread nD τ).loc main_arg7))
      (mulf (gelu (conv (framed (proj (m ((c.tc : Thread nD τ).loc main_arg0)) (m ((c.tc : Thread nD τ).loc main_arg3))))
          (m ((c.tc : Thread nD τ).loc main_arg4)) (m ((c.tc : Thread nD τ).loc main_arg5))))
        (proj (m ((c.tc : Thread nD τ).loc main_arg0)) (m ((c.tc : Thread nD τ).loc main_arg2))))
      (m ((c.tc : Thread nD τ).loc main_arg6))) (m ((c.tc : Thread nD τ).loc main_arg8)) := by
  unfold Value.res_out0 Value.res_main_v62
  rfl

/-! ## Entry by entry -/

theorem proj_apply (h : FVec Ideal S16384x2048 .bf16) (w : FVec Ideal S1x2048x5504 .f32) (n : Fin 16384) (j : Fin 5504) :
    proj h w (ix2 n j) = ∑ a : Fin 2048, h (ix2 n a) * w (ix3 0 a j) := by
  pointwise [proj]

theorem conv_apply (g : FVec Ideal S16386x5504 .f32) (cw : FVec Ideal S1x3x5504 .f32) (cb : FVec Ideal S1x5504 .f32) (n : Fin 16384) (j : Fin 5504) :
    conv g cw cb (ix2 n j) = cb (ix2 0 j) + g (ix2 ⟨n.val, by omega⟩ j) * cw (ix3 0 0 j) + g (ix2 ⟨1 + n.val, by omega⟩ j) * cw (ix3 0 1 j)
      + g (ix2 ⟨2 + n.val, by omega⟩ j) * cw (ix3 0 2 j) := by
  pointwise [conv]

theorem gelu_apply (x : FVec Ideal S16384x5504 .f32) (i : S16384x5504.Idx) :
    gelu x i = viaTanh (Ideal.ofBits .f32 0x3F4C422A#32) (Ideal.ofBits .f32 0x3D372713#32) (x i) := by
  unfold viaTanh
  rw [← lit_half, ← lit_one]
  rfl

theorem back_apply (x : FVec Ideal S16384x2048 .f32) (g2 : FVec Ideal S1x2048 .f32) (act : FVec Ideal S16384x5504 .f32) (wd : FVec Ideal S1x5504x2048 .f32)
    (n : Fin 16384) (e : Fin 2048) :
    back x g2 act wd (ix2 n e) = x (ix2 n e) + g2 (ix2 0 e) * ∑ j : Fin 5504, act (ix2 n j) * wd (ix3 0 j e) := by
  pointwise [back]

theorem normed_apply (x : FVec Ideal S16384x2048 .f32) (fg : FVec Ideal S2048 .f32) (n : Fin 16384) (e : Fin 2048) :
    normed x fg (ix2 n e) = x (ix2 n e)
        * Ideal.rsqrt (Ideal.div (∑ d : Fin 2048, x (ix2 n d) * x (ix2 n d)) (Ideal.ofBits .f32 0x45000000#32) + Ideal.ofBits .f32 0x358637BD#32)
        * fg (ix1 e) := by
  pointwise [normed]

theorem framed_apply (g : FVec Ideal S16384x5504 .f32) (n : Fin 16386) (j : Fin 5504) :
    framed g (ix2 n j) = if h : 1 ≤ n.val ∧ n.val - 1 < 16384 then g (ix2 ⟨n.val - 1, by omega⟩ j) else 0 := by
  pointwise [framed]
  have e : FloatOps.sitofp (F := Ideal) FTy.f32 0#32 = 0 := by
    show ((((0#32 : BitVec 32).toInt : ℝ)) : EReal) = 0
    norm_num
  rw [e]

end Cert.Proof.FfnReference

end
-- ==== Proof.Ffn.lean ====
/-
  The feed-forward kernel's result array is its reference's.
-/
module

public import proofs.«01_k».proof.Proof.FfnSweep
public import proofs.«01_k».proof.Proof.FfnReference
public import Idealize.ShloMosaic.Lib.Claim

@[expose] public section

set_option maxRecDepth 16384

noncomputable section

namespace Cert.Proof.Ffn

open Cert.Kernel2Ideal Cert.Kernel2Ideal.Gen
open Idealize.ShloMosaic Idealize.ShloMosaic.TcCoe Idealize.SL.Sem
open Cert.Proof.Gelu Cert.Proof.FfnTile Cert.Proof.FfnBlocks Cert.Proof.FfnPoint Cert.Proof.FfnSweep

/-! ## The padded columns add nothing -/

section Columns
variable (H : FVec Ideal S16384x2048 .bf16) (wu wg : FVec Ideal S1x2048x5504 .f32) (cw : FVec Ideal S1x3x5504 .f32) (cb : FVec Ideal S1x5504 .f32)
  (wd : FVec Ideal S1x5504x2048 .f32)

/-- The reference's activated product. -/
abbrev refAct : FVec Ideal Cert.Reference2Ideal.S16384x5504 .f32 :=
  mulf (FfnReference.gelu (FfnReference.conv (FfnReference.framed (FfnReference.proj H wg)) cw cb)) (FfnReference.proj H wu)

theorem kap_eq : kap = ((-6693141 / 4194304 * (Real.log 2)⁻¹ : ℝ) : EReal) := IdealRules.named_const.ideal_named_scalar _ _ _ _ rfl

theorem kapc_eq : kapc = (((-6693141 / 4194304 * (Real.log 2)⁻¹) * (12003091 / 268435456) : ℝ) : EReal) := IdealRules.named_const.ideal_named_scalar _ _ _ _ rfl

/-- The framed gate rows of the reference. -/
theorem framed_gate (n : Fin 16386) (j : Fin 5504) : FfnReference.framed (FfnReference.proj H wg) (ix2 n j) = gateP H wg n.val ⟨j.val, by omega⟩ := by
  rw [FfnReference.framed_apply]
  unfold gateP
  have hw : ∀ d : Fin 2048, wide wg (ix2 d ⟨j.val, by omega⟩) = wg (ix3 0 d j) := fun d => by rw [wide_apply, dif_pos j.isLt]
  split
  · rename_i h
    rw [FfnReference.proj_apply]
    refine Finset.sum_congr rfl fun d _ => ?_
    rw [hw d, hx_in H n.val d ⟨n.val - 1, h.2⟩ (by show n.val = n.val - 1 + 1; omega)]
  · rename_i h
    refine (Finset.sum_eq_zero fun d _ => ?_).symm
    rw [hx_out H n.val d (by have := n.isLt; omega), zero_mul]

/-- The convolution of the reference. -/
theorem conv_eq (n : Fin 16384) (j : Fin 5504) :
    FfnReference.conv (FfnReference.framed (FfnReference.proj H wg)) cw cb (ix2 n j) = convP H wg cw cb n.val ⟨j.val, by omega⟩ := by
  rw [FfnReference.conv_apply, framed_gate, framed_gate, framed_gate]
  unfold convP
  rw [biasP_apply, tapsP_apply, tapsP_apply, tapsP_apply, dif_pos j.isLt, dif_pos j.isLt, dif_pos j.isLt, dif_pos j.isLt, Nat.add_comm n.val 1, Nat.add_comm n.val 2]
  exact congrArg₂ (· + ·) (congrArg₂ (· + ·) (congrArg₂ (· + ·) rfl (mul_comm _ _)) (mul_comm _ _)) (mul_comm _ _)

/-- A wide column of the argument has the reference's share. -/
theorem share_in (n : Fin 16384) (e : Fin 2048) (j : Fin 5504) :
    colTerm H wu wg cw cb wd n e j.val = refAct H wu wg cw cb (ix2 n j) * wd (ix3 0 j e) := by
  unfold colTerm
  rw [dif_pos (by omega), tall_apply, dif_pos j.isLt, kap_eq, kapc_eq, viaExp_lit, ← conv_eq H wg cw cb n j]
  congr 1
  show _ = FfnReference.gelu _ (ix2 n j) * FfnReference.proj H wu (ix2 n j)
  rw [FfnReference.gelu_apply, FfnReference.proj_apply]
  congr 1
  exact Finset.sum_congr rfl fun d _ => by rw [wide_apply, dif_pos j.isLt]

/-- A column past the argument's end has none. -/
theorem share_out (n : Fin 16384) (e : Fin 2048) (j : ℕ) (hj : 5504 ≤ j) : colTerm H wu wg cw cb wd n e j = 0 := by
  unfold colTerm
  split
  · rw [tall_apply, dif_neg (by show ¬j < 5504; omega), mul_zero]
  · rfl

/-- All the columns' shares are the reference's product. -/
theorem shares_eq (n : Fin 16384) (e : Fin 2048) :
    (∑ j ∈ Finset.range 5632, colTerm H wu wg cw cb wd n e j) = ∑ j : Fin 5504, refAct H wu wg cw cb (ix2 n j) * wd (ix3 0 j e) := by
  rw [show 5632 = 5504 + 128 from rfl, Finset.sum_range_add,
    Finset.sum_eq_zero (s := Finset.range 128) (fun j _ => share_out H wu wg cw cb wd n e (5504 + j) (by omega)), add_zero,
    ← Fin.sum_univ_eq_sum_range (fun j => colTerm H wu wg cw cb wd n e j) 5504]
  exact Finset.sum_congr rfl fun j _ => share_in H wu wg cw cb wd n e j

end Columns

/-! ## The result array -/

variable (m : (ℓ : Loc nD τ sig) → Buf (Elt Ideal) ℓ) (ρ : Dev nD → PrngReg) (c : Dev nD)

/-- The reference's formula over the kernel's arguments. -/
def target : FVec Ideal S16384x2048 .f32 :=
  FfnReference.normed (FfnReference.back (m ((c : Thread nD τ).loc main_arg1)) (m ((c : Thread nD τ).loc main_arg7))
    (refAct (m ((c : Thread nD τ).loc main_arg0)) (m ((c : Thread nD τ).loc main_arg2)) (m ((c : Thread nD τ).loc main_arg3)) (m ((c : Thread nD τ).loc main_arg4))
      (m ((c : Thread nD τ).loc main_arg5))) (m ((c : Thread nD τ).loc main_arg6))) (m ((c : Thread nD τ).loc main_arg8))

/-- The accumulator after a last point is the reference's product. -/
theorem acc_done (t : Fin cfg0.N) (hm : t.val % 11 = 10) (a : Fin 512) (e : Fin 2048) :
    (outsAt0 m c t.val t.isLt).2.2 (ix2 a e) = ∑ j : Fin 5504, refAct (m ((c : Thread nD τ).loc main_arg0)) (m ((c : Thread nD τ).loc main_arg2))
      (m ((c : Thread nD τ).loc main_arg3)) (m ((c : Thread nD τ).loc main_arg4)) (m ((c : Thread nD τ).loc main_arg5)) (ix2 (rowOf t a) j)
        * (m ((c : Thread nD τ).loc main_arg6) : FVec Ideal S1x5504x2048 .f32) (ix3 0 j e) := by
  refine ((after_point m c t.val t.isLt).2 a e).trans ?_
  rw [show (⟨t.val, t.isLt⟩ : Fin cfg0.N).val % 11 = 10 from hm]
  exact shares_eq _ _ _ _ _ _ _ _

/-- The output block, its parts' entries given. -/
theorem out_eq (X : FVec Ideal S16384x2048 .f32) (G : FVec Ideal S1x2048 .f32) (A : FVec Ideal Cert.Reference2Ideal.S16384x5504 .f32) (wd : FVec Ideal S1x5504x2048 .f32) (fg : FVec Ideal S2048 .f32)
    (x3 : FVec Ideal S512x2048 .f32) (x9 : FVec Ideal S1x2048 .f32) (acc : FVec Ideal S512x2048 .f32) (x10 : FVec Ideal S1x2048 .f32) (a : Fin 512) (n : Fin 16384)
    (h3 : ∀ e : Fin 2048, x3 (ix2 a e) = X (ix2 n e)) (h9 : ∀ e : Fin 2048, x9 (ix2 0 e) = G (ix2 0 e)) (h10 : ∀ e : Fin 2048, x10 (ix2 0 e) = fg (ix1 e))
    (ha : ∀ e : Fin 2048, acc (ix2 a e) = ∑ j : Fin 5504, A (ix2 n j) * wd (ix3 0 j e)) (e : Fin 2048) :
    k0_pay2 (F := Ideal) x3 x9 acc x10 (ix2 a e) = FfnReference.normed (FfnReference.back X G A wd) fg (ix2 n e) := by
  have hr : ∀ d : Fin 2048, resid x3 x9 acc a d = FfnReference.back X G A wd (ix2 n d) := fun d => by
    rw [FfnReference.back_apply]
    unfold resid
    rw [h3, h9, ha]
  rw [out_apply, FfnReference.normed_apply, hr, h10]
  simp only [hr]

/-- What a last point leaves in the output block is its rows of the reference's result. -/
theorem out_done (t : Fin cfg0.N) (hm : t.val % 11 = 10) (a : Fin 512) (e : Fin 2048) :
    (outsAt0 m c t.val t.isLt).1 (ix2 a e) = target m c (ix2 (rowOf t a) e) := by
  have hacc := acc_done m c t hm a
  rw [outsAt0_C m c t (by omega) hm] at hacc ⊢
  dsimp only at hacc ⊢
  rw [acc_last] at hacc
  rw [out_last]
  exact out_eq _ _ _ _ _ _ _ _ _ a (rowOf t a) (fun d => block3 m c t a d) (fun d => block9 m c t d) (fun d => block10 m c t d) hacc e

/-- A point's write-back is its block of the reference's result. -/
theorem flushed_eq (t : Fin cfg0.N) (hf : (cfg0.win 11).flush t = true) :
    (dats m 0 c).flushed 11 t = ((cfg0.win 11).blk t).view.read (Elt Ideal) (target m c) := by
  show (cfg0.win 11).cut (grid0.coords t) ((dats m 0 c).after 11 t) = _
  rw [after0_11]
  have hm : t.val % 11 = 10 := (flush0_11 t).mp hf
  funext y
  have hy0 : (y 0).val < 512 := (y 0).isLt
  have hy1 : (y 1).val < 2048 := (y 1).isLt
  obtain ⟨h0, h1⟩ := index11 t
  have e1 : (cfg0.win 11).xinj (grid0.coords t) y = ix2 (⟨(y 0).val, hy0⟩ : Fin 512) (⟨(y 1).val, hy1⟩ : Fin 2048) := by
    funext b
    match b with
    | 0 => rfl
    | 1 => rfl
  have e2 : ((cfg0.win 11).blk t).view.emb y = ix2 (rowOf t ⟨(y 0).val, hy0⟩) (⟨(y 1).val, hy1⟩ : Fin 2048) := by
    funext b
    apply Fin.ext
    match b with
    | 0 => show win0_11.index t 0 * 512 + 1 * (y 0).val = 512 * (t.val / 11) + (y 0).val; omega
    | 1 => show win0_11.index t 1 * 2048 + 1 * (y 1).val = (y 1).val; omega
  show (outsAt0 m c t.val t.isLt).1 ((cfg0.win 11).xinj (grid0.coords t) y) = target m c (((cfg0.win 11).blk t).view.emb y)
  rw [e1, e2]
  exact out_done m c t hm _ _

/-- The write-backs cover the array. -/
theorem covered (i : S16384x2048.Idx) : ∃ t : Fin cfg0.N, (cfg0.win 11).flush t = true ∧ i ∈ ((cfg0.win 11).blk t).view.set := by
  have hi0 : (i 0).val < 16384 := (i 0).isLt
  have hi1 : (i 1).val < 2048 := (i 1).isLt
  have hN : cfg0.N = 352 := N_0
  obtain ⟨t, ht⟩ : ∃ t : Fin cfg0.N, t.val = 11 * ((i 0).val / 512) + 10 := ⟨⟨11 * ((i 0).val / 512) + 10, by omega⟩, rfl⟩
  refine ⟨t, (flush0_11 t).mpr (by omega), ?_⟩
  obtain ⟨h0, h1⟩ := index11 t
  show i ∈ ((View.whole main_v15).slice (win0_11.rect t)).set
  rw [View.set_slice_whole, Rect.mem_set_unit]
  intro b
  match b with
  | 0 =>
    show win0_11.index t 0 * 512 ≤ (i 0).val ∧ (i 0).val < win0_11.index t 0 * 512 + 512
    omega
  | 1 =>
    show win0_11.index t 1 * 2048 ≤ (i 1).val ∧ (i 1).val < win0_11.index t 1 * 2048 + 2048
    omega

/-- The result array ends holding the reference's result. -/
theorem array_eq : (dats m 0 c).arrAt 11 cfg0.N = target m c :=
  (dats m 0 c).arrAt_eq_of_cover 11 _ (fun t hf => flushed_eq m c t hf) (fun i => covered i)

end Cert.Proof.Ffn

end
-- ==== Proof.OutReference.lean ====
/-
  What the output projection's reference computes over the extended reals, entry by entry, its stages named.
-/
module

public import proofs.«01_k».proof.Proof.Gelu
public import proofs.«01_k».proof.Proof.Gen.Reference3Ideal.Run

@[expose] public section

set_option maxRecDepth 16384

noncomputable section

namespace Cert.Proof.OutReference

open Cert.Reference3Ideal Cert.Reference3Ideal.Gen
open Idealize.ShloMosaic Idealize.ShloMosaic.TcCoe Idealize.SL.Sem
open Cert.Proof.Gelu

/-- The activation. -/
def gelu (x : FVec Ideal S16384x1024 .f32) : FVec Ideal S16384x1024 .f32 :=
  mulf x (mulf (broadcastInDim S16384x1024 ![] bcast_S_S16384x1024 (constant S_ .f32 0x3F000000#32))
    (addf (broadcastInDim S16384x1024 ![] bcast_S_S16384x1024 (constant S_ .f32 0x3F800000#32))
      (Host.tanh (mulf (broadcastInDim S16384x1024 ![] bcast_S_S16384x1024 (constant S_ .f32 0x3F4C422A#32))
        (addf x (mulf (broadcastInDim S16384x1024 ![] bcast_S_S16384x1024 (constant S_ .f32 0x3D372713#32)) (mulf (mulf x x) x)))))))

/-- The two head groups side by side: the attention, and the recurrence's two directions gated. -/
def mixed (at' : FVec Ideal S16384x1024 .bf16) (hf hb rz : FVec Ideal S16384x1024 .f32) : FVec Ideal S16384x2048 .f32 :=
  concatenate S16384x2048 1 [⟨S16384x1024, extf .f32 at' bitsLt_bf16_f32⟩, ⟨S16384x1024, mulf (addf hf hb) (gelu rz)⟩]
    concatenates_S16384x1024_S16384x1024_S16384x2048_d1

/-- Their projection, scaled by column, added to the residual rows. -/
def added (x : FVec Ideal S16384x2048 .f32) (g1 : FVec Ideal S1x2048 .f32) (mx : FVec Ideal S16384x2048 .f32) (w : FVec Ideal S1x2048x2048 .f32) :
    FVec Ideal S16384x2048 .f32 :=
  addf x (mulf (broadcastInDim S16384x2048 ![0, 1] bcast_S1x2048_S16384x2048_0_1 g1)
    (Host.dotGeneral dot_S16384x2048_S2048x2048_S16384x2048_1_0_0_1_n_n none mx (shapeCast S2048x2048 w shapeCasts_S1x2048x2048_S2048x2048)))

/-- Each row normalised, then scaled and shifted by column. -/
def modulated (x : FVec Ideal S16384x2048 .f32) (n2 sh sc : FVec Ideal S1x2048 .f32) : FVec Ideal S16384x2048 .bf16 :=
  truncf .bf16 (addf (mulf (mulf (mulf x (broadcastInDim S16384x2048 ![0, 1] bcast_S16384x1_S16384x2048_0_1 (Host.rsqrt (addf (Host.divf
      (broadcastInDim S16384x1 ![0] bcast_S16384_S16384x1_0 (Host.reduceAdd (mulf x x) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 (shapeCast S2048 n2 shapeCasts_S1x2048_S2048))))
    (broadcastInDim S16384x2048 ![0, 1] bcast_S1x2048_S16384x2048_0_1 (addf (broadcastInDim S1x2048 ![] bcast_S_S1x2048 (constant S_ .f32 0x3F800000#32)) sc)))
    (broadcastInDim S16384x2048 ![0, 1] bcast_S1x2048_S16384x2048_0_1 sh)) bitsLt_bf16_f32

/-- The reference's second result is its stages in order. -/
theorem result_eq (m : (ℓ : Loc nD τ sig) → Buf (Elt Ideal) ℓ) (c : Dev nD) :
    Value.res_out1 m c = modulated (added (m ((c.tc : Thread nD τ).loc main_arg4)) (m ((c.tc : Thread nD τ).loc main_arg6))
      (mixed (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg5))) (m ((c.tc : Thread nD τ).loc main_arg7)) (m ((c.tc : Thread nD τ).loc main_arg8)) (m ((c.tc : Thread nD τ).loc main_arg9)) := by
  unfold Value.res_out1 Value.res_main_v42
  rfl

/-! ## Entry by entry -/

theorem gelu_apply (x : FVec Ideal S16384x1024 .f32) (i : S16384x1024.Idx) :
    gelu x i = viaTanh (Ideal.ofBits .f32 0x3F4C422A#32) (Ideal.ofBits .f32 0x3D372713#32) (x i) := by
  unfold viaTanh
  rw [← lit_half, ← lit_one]
  rfl

/-- The joined rows for any second part. -/
theorem joined_apply (x y : FVec Ideal S16384x1024 .f32) (n : Fin 16384) (j : Fin 2048) :
    concatenate S16384x2048 1 [⟨S16384x1024, x⟩, ⟨S16384x1024, y⟩] concatenates_S16384x1024_S16384x1024_S16384x2048_d1 (ix2 n j)
      = if h : j.val < 1024 then x (ix2 n ⟨j.val, h⟩) else y (ix2 n ⟨j.val - 1024, by omega⟩) := by
  pointwise []

/-- The first half is the attention. -/
theorem mixed_left (at' : FVec Ideal S16384x1024 .bf16) (hf hb rz : FVec Ideal S16384x1024 .f32) (n : Fin 16384) (j : Fin 1024) :
    mixed at' hf hb rz (ix2 n (Fin.castAdd 1024 j : Fin (1024 + 1024))) = at' (ix2 n j) := by
  unfold mixed
  rw [joined_apply, dif_pos (show (Fin.castAdd 1024 j).val < 1024 from j.isLt)]
  rfl

/-- The second half is the gated recurrence. -/
theorem mixed_right (at' : FVec Ideal S16384x1024 .bf16) (hf hb rz : FVec Ideal S16384x1024 .f32) (n : Fin 16384) (j : Fin 1024) :
    mixed at' hf hb rz (ix2 n (Fin.natAdd 1024 j : Fin (1024 + 1024))) = (hf (ix2 n j) + hb (ix2 n j))
      * viaTanh (Ideal.ofBits .f32 0x3F4C422A#32) (Ideal.ofBits .f32 0x3D372713#32) (rz (ix2 n j)) := by
  unfold mixed
  rw [joined_apply, dif_neg (show ¬(Fin.natAdd 1024 j).val < 1024 by show ¬1024 + j.val < 1024; omega)]
  have e : (⟨(Fin.natAdd 1024 j).val - 1024, by have := j.isLt; show 1024 + j.val - 1024 < 1024; omega⟩ : Fin 1024) = j :=
    Fin.ext (by show 1024 + j.val - 1024 = j.val; omega)
  rw [e, ← gelu_apply]
  rfl

theorem added_apply (x : FVec Ideal S16384x2048 .f32) (g1 : FVec Ideal S1x2048 .f32) (mx : FVec Ideal S16384x2048 .f32) (w : FVec Ideal S1x2048x2048 .f32)
    (n : Fin 16384) (e : Fin 2048) :
    added x g1 mx w (ix2 n e) = x (ix2 n e) + g1 (ix2 0 e) * ∑ j : Fin 2048, mx (ix2 n j) * w (ix3 0 j e) := by
  pointwise [added]

theorem modulated_apply (x : FVec Ideal S16384x2048 .f32) (n2 sh sc : FVec Ideal S1x2048 .f32) (n : Fin 16384) (e : Fin 2048) :
    modulated x n2 sh sc (ix2 n e) = x (ix2 n e)
        * Ideal.rsqrt (Ideal.div (∑ d : Fin 2048, x (ix2 n d) * x (ix2 n d)) (Ideal.ofBits .f32 0x45000000#32) + Ideal.ofBits .f32 0x358637BD#32)
        * n2 (ix2 0 e) * (Ideal.ofBits .f32 0x3F800000#32 + sc (ix2 0 e)) + sh (ix2 0 e) := by
  pointwise [modulated]

end Cert.Proof.OutReference

end
-- ==== Proof.Out.lean ====
/-
  The output projection's two result arrays are its reference's.
-/
module

public import proofs.«01_k».proof.Proof.OutReference
public import proofs.«01_k».proof.Proof.Gen.Kernel3Ideal.Value
public import Idealize.ShloMosaic.Lib.KernelVsHost
public import Idealize.ShloMosaic.Lib.Claim

@[expose] public section

set_option maxRecDepth 16384

noncomputable section

namespace Cert.Proof.Out

open Cert.Kernel3Ideal Cert.Kernel3Ideal.Gen
open Idealize.ShloMosaic Idealize.ShloMosaic.TcCoe Idealize.SL.Sem
open Cert.Proof.Gelu

/-! ## One tile of rows -/

/-- The first factor of the activation. -/
def kap : EReal := Named.named (F := Ideal) (φ := .f32) κ "k0" 0xC0135761#32
/-- The second factor. -/
def kapc : EReal := Named.named (F := Ideal) (φ := .f32) κ "k0c" 0xBDD2D3E8#32

theorem kap_eq : kap = ((-6693141 / 4194304 * (Real.log 2)⁻¹ : ℝ) : EReal) := IdealRules.named_const.ideal_named_scalar _ _ _ _ rfl

theorem kapc_eq : kapc = (((-6693141 / 4194304 * (Real.log 2)⁻¹) * (12003091 / 268435456) : ℝ) : EReal) := IdealRules.named_const.ideal_named_scalar _ _ _ _ rfl

/-- The recurrence's two directions added and gated. -/
def gated (f b z : FVec Ideal S512x1024 .f32) : FVec Ideal S512x1024 .f32 :=
  mulf (addf f b) (divf z (addf (broadcast S512x1024 (Scalar.ofBits .f32 0x3F800000#32)) (exp2 (mulf z (addf (broadcast S512x1024 (Named.named κ "k0" 0xC0135761#32))
    (mulf (broadcast S512x1024 (Named.named κ "k0c" 0xBDD2D3E8#32)) (mulf z z)))))))

theorem gated_apply (f b z : FVec Ideal S512x1024 .f32) (i : S512x1024.Idx) :
    gated f b z i = (f i + b i) * viaTanh (Ideal.ofBits .f32 0x3F4C422A#32) (Ideal.ofBits .f32 0x3D372713#32) (z i) := by
  rw [← viaExp_lit, ← kap_eq, ← kapc_eq]
  unfold viaExp
  rw [← lit_one]
  rfl

/-- The two halves' products added, scaled by column, added to the residual rows. -/
def projected (p q : FVec Ideal S512x1024 .bf16) (w w' : FVec Ideal S1024x2048 .bf16) (x : FVec Ideal S512x2048 .f32) (g : FVec Ideal S1x2048 .f32) :
    FVec Ideal S512x2048 .f32 :=
  addf x (mulf (broadcastTo S512x2048 g broadcasts_S1x2048_S512x2048)
    (addf (matmul dot_S512x1024_S1024x2048_S512x2048_1_0_0_1_n_n none p (shapeCast S1024x2048 w shapeCasts_S1024x2048_S1024x2048) (constant S512x2048 .f32 0x00000000#32))
      (matmul dot_S512x1024_S1024x2048_S512x2048_1_0_0_1_n_n none q (shapeCast S1024x2048 w' shapeCasts_S1024x2048_S1024x2048) (constant S512x2048 .f32 0x00000000#32))))

theorem projected_apply (p q : FVec Ideal S512x1024 .bf16) (w w' : FVec Ideal S1024x2048 .bf16) (x : FVec Ideal S512x2048 .f32) (g : FVec Ideal S1x2048 .f32)
    (a : Fin 512) (e : Fin 2048) :
    projected p q w w' x g (ix2 a e) = x (ix2 a e)
      + g (ix2 0 e) * ((∑ j : Fin 1024, p (ix2 a j) * w (ix2 j e)) + ∑ j : Fin 1024, q (ix2 a j) * w' (ix2 j e)) := by
  pointwise [projected]

/-- A tile's rows normalised, then scaled and shifted by column. -/
def shifted (x : FVec Ideal S512x2048 .f32) (n2 sc sh : FVec Ideal S1x2048 .f32) : FVec Ideal S512x2048 .bf16 :=
  k0_pay1 (F := Ideal) x (shapeCast S512x1 (multiReduction .add [1] S512 (mulf x x) 0x00000000#32 reduces_S512x2048_S512 (.inl rfl) rfl) shapeCasts_S512_S512x1)
    (Scalar.ofBits .f32 0x45000000#32) n2 sc sh

theorem shifted_apply (x : FVec Ideal S512x2048 .f32) (n2 sc sh : FVec Ideal S1x2048 .f32) (a : Fin 512) (e : Fin 2048) :
    shifted x n2 sc sh (ix2 a e) = x (ix2 a e)
        * Ideal.rsqrt (Ideal.div (∑ d : Fin 2048, x (ix2 a d) * x (ix2 a d)) (Ideal.ofBits .f32 0x45000000#32) + Ideal.ofBits .f32 0x358637BD#32)
        * n2 (ix2 0 e) * (Ideal.ofBits .f32 0x3F800000#32 + sc (ix2 0 e)) + sh (ix2 0 e) := by
  pointwise [shifted, k0_pay1]

/-! ## What a point stores -/

theorem hz : (![0, 0] : Fin 2 → Nat) = fun _ => 0 := funext fun a => by fin_cases a <;> rfl

/-- The upper half of the weight. -/
abbrev upper (x : Vec Ideal S2048x2048 .bf16) : Vec Ideal S1024x2048 .bf16 := View.ld x r0_1
/-- The lower half of the weight. -/
abbrev lower (x : Vec Ideal S2048x2048 .bf16) : Vec Ideal S1024x2048 .bf16 := View.ld x r0_2

variable (x0 : FVec Ideal S512x1024 .bf16) (x1 x2 x3 : FVec Ideal S512x1024 .f32) (x4 : FVec Ideal S512x2048 .f32) (x5 : FVec Ideal S2048x2048 .bf16)
  (x6 x7 x8 x9 : FVec Ideal S1x2048 .f32)

/-- The rows a point adds up. -/
def sumRows : FVec Ideal S512x2048 .f32 :=
  projected x0 (truncf .bf16 (gated x1 x2 x3) bitsLt_bf16_f32) (upper x5) (lower x5) x4 x6

theorem out10_eq : out0_10 (F := Ideal) x0 x1 x2 x3 x4 x5 x6 x7 x8 x9 = sumRows x0 x1 x2 x3 x4 x5 x6 := by
  unfold out0_10
  rw [View.canon_unit_zero hz]
  simp only [View.ld_unit_zero (S := S512x1024) hz, View.ld_unit_zero (S := S512x2048) hz, View.ld_unit_zero (S := S1x2048) hz]
  rfl

theorem out11_eq : out0_11 (F := Ideal) x0 x1 x2 x3 x4 x5 x6 x7 x8 x9 = shifted (sumRows x0 x1 x2 x3 x4 x5 x6) x7 x9 x8 := by
  unfold out0_11
  rw [View.canon_unit_zero hz]
  simp only [View.ld_unit_zero (S := S512x1024) hz, View.ld_unit_zero (S := S512x2048) hz, View.ld_unit_zero (S := S1x2048) hz]
  rfl

/-- The upper half's rows. -/
theorem upper_apply (j : Fin 1024) (e : Fin 2048) : upper x5 (ix2 j e) = x5 (ix2 (Fin.castAdd 1024 j : Fin (1024 + 1024)) e) := by
  show x5 (r0_1.emb (ix2 j e)) = _
  refine congrArg x5 (funext fun b => Fin.ext ?_)
  match b with
  | 0 => show 0 + 1 * j.val = j.val; omega
  | 1 => show 0 + 1 * e.val = e.val; omega

/-- The lower half's rows. -/
theorem lower_apply (j : Fin 1024) (e : Fin 2048) : lower x5 (ix2 j e) = x5 (ix2 (Fin.natAdd 1024 j : Fin (1024 + 1024)) e) := by
  show x5 (r0_2.emb (ix2 j e)) = _
  refine congrArg x5 (funext fun b => Fin.ext ?_)
  match b with
  | 0 => show 1024 + 1 * j.val = 1024 + j.val; omega
  | 1 => show 0 + 1 * e.val = e.val; omega

/-! ## A tile against the reference -/

section Tile
variable (A : FVec Ideal S16384x1024 .bf16) (HF HB RZ : FVec Ideal S16384x1024 .f32) (X : FVec Ideal S16384x2048 .f32) (W : FVec Ideal S1x2048x2048 .f32)
  (G N SH SC : FVec Ideal S1x2048 .f32) (a : Fin 512) (n : Fin 16384)

/-- The rows a point adds up are the reference's, the blocks being rows of the arguments. -/
theorem sumRows_apply (h0 : ∀ j : Fin 1024, x0 (ix2 a j) = A (ix2 n j)) (h1 : ∀ j : Fin 1024, x1 (ix2 a j) = HF (ix2 n j))
    (h2 : ∀ j : Fin 1024, x2 (ix2 a j) = HB (ix2 n j)) (h3 : ∀ j : Fin 1024, x3 (ix2 a j) = RZ (ix2 n j)) (h4 : ∀ e : Fin 2048, x4 (ix2 a e) = X (ix2 n e))
    (h5 : ∀ j e : Fin 2048, x5 (ix2 j e) = W (ix3 0 j e)) (h6 : ∀ e : Fin 2048, x6 (ix2 0 e) = G (ix2 0 e)) (e : Fin 2048) :
    sumRows x0 x1 x2 x3 x4 x5 x6 (ix2 a e) = OutReference.added X G (OutReference.mixed A HF HB RZ) W (ix2 n e) := by
  unfold sumRows
  rw [projected_apply, OutReference.added_apply, h4, h6]
  congr 2
  refine Eq.trans ?_ (Fin.sum_univ_add (a := 1024) (b := 1024) (fun j : Fin (1024 + 1024) => OutReference.mixed A HF HB RZ (ix2 n j) * W (ix3 0 j e))).symm
  refine congrArg₂ (· + ·) (Finset.sum_congr rfl fun j _ => ?_) (Finset.sum_congr rfl fun j _ => ?_)
  · rw [OutReference.mixed_left, upper_apply, h0]
    exact congrArg _ (h5 _ _)
  · rw [OutReference.mixed_right, lower_apply, ← h1, ← h2, ← h3, ← gated_apply]
    exact congrArg _ (h5 _ _)

/-- The rows a point normalises are the reference's. -/
theorem shifted_rows (x : FVec Ideal S512x2048 .f32) (Y : FVec Ideal S16384x2048 .f32) (hx : ∀ e : Fin 2048, x (ix2 a e) = Y (ix2 n e))
    (h7 : ∀ e : Fin 2048, x7 (ix2 0 e) = N (ix2 0 e)) (h8 : ∀ e : Fin 2048, x8 (ix2 0 e) = SH (ix2 0 e)) (h9 : ∀ e : Fin 2048, x9 (ix2 0 e) = SC (ix2 0 e)) (e : Fin 2048) :
    shifted x x7 x9 x8 (ix2 a e) = OutReference.modulated Y N SH SC (ix2 n e) := by
  rw [shifted_apply, OutReference.modulated_apply, h7, h8, h9, hx]
  simp only [hx]

end Tile

/-! ## What a point finds -/

variable (m : (ℓ : Loc nD τ sig) → Buf (Elt Ideal) ℓ) (ρ : Dev nD → PrngReg) (c : Dev nD)

/-- The weight as the region finds it. -/
def weight (w : FVec Ideal S1x2048x2048 .f32) : FVec Ideal S2048x2048 .bf16 :=
  truncf .bf16 (shapeCast S2048x2048 w shapeCasts_S1x2048x2048_S2048x2048) bitsLt_bf16_f32

/-- The norm's gain as the region finds it. -/
def gain (g : FVec Ideal S1x2048 .f32) : FVec Ideal S1x2048 .f32 :=
  shapeCast S1x2048 (shapeCast S2048 g shapeCasts_S1x2048_S2048) shapeCasts_S2048_S1x2048

theorem V_main_v1 : V m c main_v1 = weight (m ((c : Thread nD τ).loc main_arg5)) := by
  unfold V
  simp only [hostOps0]
  after_results_simp <;> rfl

theorem V_main_v3 : V m c main_v3 = gain (m ((c : Thread nD τ).loc main_arg7)) := by
  unfold V
  simp only [hostOps0]
  after_results_simp <;> rfl

theorem weight_apply (w : FVec Ideal S1x2048x2048 .f32) (j e : Fin 2048) : weight w (ix2 j e) = w (ix3 0 j e) := by
  pointwise [weight]

theorem gain_apply (g : FVec Ideal S1x2048 .f32) (e : Fin 2048) : gain g (ix2 0 e) = g (ix2 0 e) := by
  unfold gain
  rw [shapeCast_shapeCast]

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index9 : ∀ t : Fin cfg0.N, win0_9.index t 0 = 0 ∧ win0_9.index t 1 = 0 := by decide +kernel
theorem index10 : ∀ t : Fin cfg0.N, win0_10.index t 0 = t.val ∧ win0_10.index t 1 = 0 := by decide +kernel
theorem index11 : ∀ t : Fin cfg0.N, win0_11.index t 0 = t.val ∧ win0_11.index t 1 = 0 := by decide +kernel

theorem point_lt (t : Fin cfg0.N) : t.val < 32 := lt_of_lt_of_eq t.isLt N_0

/-- The row of the arrays at row `a` of a point's block. -/
def rowOf (t : Fin cfg0.N) (a : Fin 512) : Fin 16384 := ⟨512 * t.val + a.val, by have := point_lt t; omega⟩

/-- An index of a tile's block inside a whole array, its block being the point's. -/
theorem at_row {k : ℕ} (t : Fin cfg0.N) (a : Fin 512) (d : Fin k) (y : (⟨2, ![16384, k]⟩ : Shape).Idx) (i0 i1 : ℕ) (hi0 : i0 = t.val) (hi1 : i1 = 0)
    (h0 : (y 0).val = i0 * 512 + 1 * a.val) (h1 : (y 1).val = i1 * k + 1 * d.val) : y = ix2 (rowOf t a) d := by
  subst hi0 hi1
  funext b
  apply Fin.ext
  match b with
  | 0 => show (y 0).val = 512 * t.val + a.val; omega
  | 1 => show (y 1).val = d.val; omega

theorem block0 (t : Fin cfg0.N) (a : Fin 512) (d : Fin 1024) : iblk m c 0 t (ix2 a d) = m ((c : Thread nD τ).loc main_arg0) (ix2 (rowOf t a) d) := by
  have he : iblk m c 0 t (ix2 a d) = V m c main_arg0 ((win0_0.rect t).emb (ix2 a d)) := rfl
  rw [he, V_main_arg0]
  exact congrArg _ (at_row t a d _ _ _ (index0 t).1 (index0 t).2 rfl rfl)

theorem block1 (t : Fin cfg0.N) (a : Fin 512) (d : Fin 1024) : iblk m c 1 t (ix2 a d) = m ((c : Thread nD τ).loc main_arg1) (ix2 (rowOf t a) d) := by
  have he : iblk m c 1 t (ix2 a d) = V m c main_arg1 ((win0_1.rect t).emb (ix2 a d)) := rfl
  rw [he, V_main_arg1]
  exact congrArg _ (at_row t a d _ _ _ (index1 t).1 (index1 t).2 rfl rfl)

theorem block2 (t : Fin cfg0.N) (a : Fin 512) (d : Fin 1024) : iblk m c 2 t (ix2 a d) = m ((c : Thread nD τ).loc main_arg2) (ix2 (rowOf t a) d) := by
  have he : iblk m c 2 t (ix2 a d) = V m c main_arg2 ((win0_2.rect t).emb (ix2 a d)) := rfl
  rw [he, V_main_arg2]
  exact congrArg _ (at_row t a d _ _ _ (index2 t).1 (index2 t).2 rfl rfl)

theorem block3 (t : Fin cfg0.N) (a : Fin 512) (d : Fin 1024) : iblk m c 3 t (ix2 a d) = m ((c : Thread nD τ).loc main_arg3) (ix2 (rowOf t a) d) := by
  have he : iblk m c 3 t (ix2 a d) = V m c main_arg3 ((win0_3.rect t).emb (ix2 a d)) := rfl
  rw [he, V_main_arg3]
  exact congrArg _ (at_row t a d _ _ _ (index3 t).1 (index3 t).2 rfl rfl)

theorem block4 (t : Fin cfg0.N) (a : Fin 512) (d : Fin 2048) : iblk m c 4 t (ix2 a d) = m ((c : Thread nD τ).loc main_arg4) (ix2 (rowOf t a) d) := by
  have he : iblk m c 4 t (ix2 a d) = V m c main_arg4 ((win0_4.rect t).emb (ix2 a d)) := rfl
  rw [he, V_main_arg4]
  exact congrArg _ (at_row t a d _ _ _ (index4 t).1 (index4 t).2 rfl rfl)

/-- An index of a block that is its whole array. -/
theorem at_whole {p q : ℕ} (a : Fin p) (d : Fin q) (y : (⟨2, ![p, q]⟩ : Shape).Idx) (i0 i1 : ℕ) (hi0 : i0 = 0) (hi1 : i1 = 0)
    (h0 : (y 0).val = i0 * p + 1 * a.val) (h1 : (y 1).val = i1 * q + 1 * d.val) : y = ix2 a d := by
  subst hi0 hi1
  funext b
  apply Fin.ext
  match b with
  | 0 => show (y 0).val = a.val; omega
  | 1 => show (y 1).val = d.val; omega

theorem block5 (t : Fin cfg0.N) (j e : Fin 2048) : iblk m c 5 t (ix2 j e) = (m ((c : Thread nD τ).loc main_arg5) : FVec Ideal S1x2048x2048 .f32) (ix3 0 j e) := by
  have he : iblk m c 5 t (ix2 j e) = V m c main_v1 ((win0_5.rect t).emb (ix2 j e)) := rfl
  rw [he, V_main_v1, ← weight_apply (m ((c : Thread nD τ).loc main_arg5))]
  exact congrArg _ (at_whole j e _ _ _ (index5 t).1 (index5 t).2 rfl rfl)

theorem block6 (t : Fin cfg0.N) (e : Fin 2048) : iblk m c 6 t (ix2 (0 : Fin 1) e) = m ((c : Thread nD τ).loc main_arg6) (ix2 (0 : Fin 1) e) := by
  have he : iblk m c 6 t (ix2 (0 : Fin 1) e) = V m c main_arg6 ((win0_6.rect t).emb (ix2 (0 : Fin 1) e)) := rfl
  rw [he, V_main_arg6]
  exact congrArg _ (at_whole 0 e _ _ _ (index6 t).1 (index6 t).2 rfl rfl)

theorem block7 (t : Fin cfg0.N) (e : Fin 2048) : iblk m c 7 t (ix2 (0 : Fin 1) e) = (m ((c : Thread nD τ).loc main_arg7) : FVec Ideal S1x2048 .f32) (ix2 (0 : Fin 1) e) := by
  have he : iblk m c 7 t (ix2 (0 : Fin 1) e) = V m c main_v3 ((win0_7.rect t).emb (ix2 (0 : Fin 1) e)) := rfl
  rw [he, V_main_v3, ← gain_apply (m ((c : Thread nD τ).loc main_arg7))]
  exact congrArg _ (at_whole 0 e _ _ _ (index7 t).1 (index7 t).2 rfl rfl)

theorem block8 (t : Fin cfg0.N) (e : Fin 2048) : iblk m c 8 t (ix2 (0 : Fin 1) e) = m ((c : Thread nD τ).loc main_arg8) (ix2 (0 : Fin 1) e) := by
  have he : iblk m c 8 t (ix2 (0 : Fin 1) e) = V m c main_arg8 ((win0_8.rect t).emb (ix2 (0 : Fin 1) e)) := rfl
  rw [he, V_main_arg8]
  exact congrArg _ (at_whole 0 e _ _ _ (index8 t).1 (index8 t).2 rfl rfl)

theorem block9 (t : Fin cfg0.N) (e : Fin 2048) : iblk m c 9 t (ix2 (0 : Fin 1) e) = m ((c : Thread nD τ).loc main_arg9) (ix2 (0 : Fin 1) e) := by
  have he : iblk m c 9 t (ix2 (0 : Fin 1) e) = V m c main_arg9 ((win0_9.rect t).emb (ix2 (0 : Fin 1) e)) := rfl
  rw [he, V_main_arg9]
  exact congrArg _ (at_whole 0 e _ _ _ (index9 t).1 (index9 t).2 rfl rfl)

/-! ## The result arrays -/

/-- The reference's first formula over the kernel's arguments. -/
def target1 : FVec Ideal S16384x2048 .f32 :=
  OutReference.added (m ((c : Thread nD τ).loc main_arg4)) (m ((c : Thread nD τ).loc main_arg6))
    (OutReference.mixed (m ((c : Thread nD τ).loc main_arg0)) (m ((c : Thread nD τ).loc main_arg1)) (m ((c : Thread nD τ).loc main_arg2)) (m ((c : Thread nD τ).loc main_arg3)))
    (m ((c : Thread nD τ).loc main_arg5))

/-- The reference's second formula. -/
def target2 : FVec Ideal S16384x2048 .bf16 :=
  OutReference.modulated (target1 m c) (m ((c : Thread nD τ).loc main_arg7)) (m ((c : Thread nD τ).loc main_arg8)) (m ((c : Thread nD τ).loc main_arg9))

/-- A point's rows are its rows of the reference's first result. -/
theorem rows1 (t : Fin cfg0.N) (a : Fin 512) (e : Fin 2048) :
    sumRows (iblk m c 0 t) (iblk m c 1 t) (iblk m c 2 t) (iblk m c 3 t) (iblk m c 4 t) (iblk m c 5 t) (iblk m c 6 t) (ix2 a e) = target1 m c (ix2 (rowOf t a) e) :=
  sumRows_apply _ _ _ _ _ _ _ _ _ _ _ _ _ _ a (rowOf t a) (block0 m c t a) (block1 m c t a) (block2 m c t a) (block3 m c t a) (block4 m c t a) (block5 m c t) (block6 m c t) e

/-- And of its second. -/
theorem rows2 (t : Fin cfg0.N) (a : Fin 512) (e : Fin 2048) :
    shifted (sumRows (iblk m c 0 t) (iblk m c 1 t) (iblk m c 2 t) (iblk m c 3 t) (iblk m c 4 t) (iblk m c 5 t) (iblk m c 6 t)) (iblk m c 7 t) (iblk m c 9 t) (iblk m c 8 t)
      (ix2 a e) = target2 m c (ix2 (rowOf t a) e) :=
  shifted_rows _ _ _ _ _ _ a (rowOf t a) _ _ (rows1 m c t a) (block7 m c t) (block8 m c t) (block9 m c t) e

/-- Where a point's block lies in the first result array. -/
theorem place10 (t : Fin cfg0.N) (a : Fin 512) (e : Fin 2048) : ((cfg0.win 10).blk t).view.emb (ix2 a e) = ix2 (rowOf t a) e :=
  at_row t a e _ _ _ (index10 t).1 (index10 t).2 rfl rfl

/-- Where a point's block lies in the second. -/
theorem place11 (t : Fin cfg0.N) (a : Fin 512) (e : Fin 2048) : ((cfg0.win 11).blk t).view.emb (ix2 a e) = ix2 (rowOf t a) e :=
  at_row t a e _ _ _ (index11 t).1 (index11 t).2 rfl rfl

/-- An index of a tile is its row and its column. -/
theorem tile_ix (y : S512x2048.Idx) : ∃ (a : Fin 512) (e : Fin 2048), y = ix2 a e :=
  ⟨⟨(y 0).val, (y 0).isLt⟩, ⟨(y 1).val, (y 1).isLt⟩, by
    funext b
    match b with
    | 0 => rfl
    | 1 => rfl⟩

/-- A point's first write-back is its block of the reference's first result. -/
theorem flushed10_eq (t : Fin cfg0.N) : (dats m 0 c).flushed 10 t = ((cfg0.win 10).blk t).view.read (Elt Ideal) (target1 m c) := by
  rw [Value.flushed10, out10_eq]
  funext y
  obtain ⟨a, e, rfl⟩ := tile_ix y
  exact (rows1 m c t a e).trans (congrArg (target1 m c) (place10 t a e).symm)

/-- A point's second write-back is its block of the reference's second result. -/
theorem flushed11_eq (t : Fin cfg0.N) : (dats m 0 c).flushed 11 t = ((cfg0.win 11).blk t).view.read (Elt Ideal) (target2 m c) := by
  rw [Value.flushed11, out11_eq]
  funext y
  obtain ⟨a, e, rfl⟩ := tile_ix y
  exact (rows2 m c t a e).trans (congrArg (target2 m c) (place11 t a e).symm)

/-- An index of a result array lies in a point's block. -/
theorem in_block (i : S16384x2048.Idx) : ∃ (t : Fin cfg0.N) (a : Fin 512) (e : Fin 2048), ix2 (rowOf t a) e = i := by
  have hi0 : (i 0).val < 16384 := (i 0).isLt
  have hi1 : (i 1).val < 2048 := (i 1).isLt
  have hN : cfg0.N = 32 := N_0
  refine ⟨⟨(i 0).val / 512, by omega⟩, ⟨(i 0).val % 512, by omega⟩, ⟨(i 1).val, hi1⟩, funext fun b => Fin.ext ?_⟩
  match b with
  | 0 => show 512 * ((i 0).val / 512) + (i 0).val % 512 = (i 0).val; omega
  | 1 => rfl

/-- The first result array ends holding the reference's first result. -/
theorem array1 : (dats m 0 c).arrAt 10 cfg0.N = target1 m c :=
  (dats m 0 c).arrAt_eq_of_cover 10 _ (fun t _ => flushed10_eq m c t) fun i => by
    obtain ⟨t, a, e, h⟩ := in_block i
    exact ⟨t, flush0_10 t, by rw [← h, ← place10 t a e]; exact View.emb_mem_set _ _⟩

/-- The second result array ends holding the reference's second result. -/
theorem array2 : (dats m 0 c).arrAt 11 cfg0.N = target2 m c :=
  (dats m 0 c).arrAt_eq_of_cover 11 _ (fun t _ => flushed11_eq m c t) fun i => by
    obtain ⟨t, a, e, h⟩ := in_block i
    exact ⟨t, flush0_11 t, by rw [← h, ← place11 t a e]; exact View.emb_mem_set _ _⟩

end Cert.Proof.Out

end
-- ==== Proof.AdaReference.lean ====
/-
  What the modulation's reference computes over the extended reals, entry by entry.
-/
module

public import proofs.«01_k».proof.Proof.Gelu
public import proofs.«01_k».proof.Proof.Gen.Reference4Ideal.Run

@[expose] public section

set_option maxRecDepth 16384

noncomputable section

namespace Cert.Proof.AdaReference

open Cert.Reference4Ideal Cert.Reference4Ideal.Gen
open Idealize.ShloMosaic Idealize.ShloMosaic.TcCoe Idealize.SL.Sem
open Cert.Proof.Gelu

/-- The two conditions' rows, and six rows of zeros. -/
def stacked (p : FVec Ideal S1x2048 .f32) (q : FVec Ideal S2048 .f32) : FVec Ideal S8x2048 .f32 :=
  concatenate S8x2048 0 [⟨S1x2048, p⟩, ⟨S1x2048, broadcastInDim S1x2048 ![1] bcast_S2048_S1x2048_1 q⟩,
    ⟨S6x2048, broadcastInDim S6x2048 ![] bcast_S_S6x2048 (constant (F := Ideal) S_ .f32 0x00000000#32)⟩] concatenates_S1x2048_S1x2048_S6x2048_S8x2048_d0

/-- The rows activated, projected, and the bias added. -/
def modulation (r : FVec Ideal S8x2048 .f32) (w : FVec Ideal S1x2048x12288 .f32) (b : FVec Ideal S1x12288 .f32) : FVec Ideal S8x12288 .f32 :=
  addf (Host.dotGeneral dot_S8x2048_S2048x12288_S8x12288_1_0_0_1_n_n none
      (mulf r (Host.divf (broadcastInDim S8x2048 ![] bcast_S_S8x2048 (constant S_ .f32 0x3F800000#32))
        (addf (broadcastInDim S8x2048 ![] bcast_S_S8x2048 (constant S_ .f32 0x3F800000#32)) (Host.exp (Host.negf r)))))
      (shapeCast S2048x12288 w shapeCasts_S1x2048x12288_S2048x12288))
    (broadcastInDim S8x12288 ![0, 1] bcast_S1x12288_S8x12288_0_1 (broadcastInDim S1x12288 ![1] bcast_S12288_S1x12288_1 (shapeCast S12288 b shapeCasts_S1x12288_S12288)))

/-- An entry of the stacked rows. -/
def entry (p : FVec Ideal S1x2048 .f32) (q : FVec Ideal S2048 .f32) (r : Fin 8) (e : Fin 2048) : EReal :=
  if r.val = 1 then q (ix1 e) else if r.val = 0 then p (ix2 0 e) else 0

/-- An entry times its logistic. -/
def swish (x : EReal) : EReal := x * Ideal.logistic x

theorem swish_lit (x : EReal) : x * Ideal.div (Ideal.ofBits .f32 0x3F800000#32) (Ideal.ofBits .f32 0x3F800000#32 + Ideal.exp (-x)) = swish x := by
  rw [lit_one]
  rfl

theorem stacked_apply (p : FVec Ideal S1x2048 .f32) (q : FVec Ideal S2048 .f32) (r : Fin 8) (e : Fin 2048) : stacked p q (ix2 r e) = entry p q r e := by
  unfold entry
  match r with
  | 0 => rw [if_neg (by decide), if_pos (by decide)]; pointwise [stacked]
  | 1 => rw [if_pos (by decide)]; pointwise [stacked]
  | 2 => rw [if_neg (by decide), if_neg (by decide), ← Ideal.ofBits_zero_f32]; pointwise [stacked]
  | 3 => rw [if_neg (by decide), if_neg (by decide), ← Ideal.ofBits_zero_f32]; pointwise [stacked]
  | 4 => rw [if_neg (by decide), if_neg (by decide), ← Ideal.ofBits_zero_f32]; pointwise [stacked]
  | 5 => rw [if_neg (by decide), if_neg (by decide), ← Ideal.ofBits_zero_f32]; pointwise [stacked]
  | 6 => rw [if_neg (by decide), if_neg (by decide), ← Ideal.ofBits_zero_f32]; pointwise [stacked]
  | 7 => rw [if_neg (by decide), if_neg (by decide), ← Ideal.ofBits_zero_f32]; pointwise [stacked]

theorem modulation_apply (r : FVec Ideal S8x2048 .f32) (w : FVec Ideal S1x2048x12288 .f32) (b : FVec Ideal S1x12288 .f32) (n : Fin 8) (e : Fin 12288) :
    modulation r w b (ix2 n e) = (∑ d : Fin 2048, swish (r (ix2 n d)) * w (ix3 0 d e)) + b (ix2 0 e) := by
  simp only [← swish_lit]
  pointwise [modulation]

end Cert.Proof.AdaReference

end
-- ==== Proof.Ada.lean ====
/-
  The modulation's result array is its reference's.
-/
module

public import proofs.«01_k».proof.Proof.AdaReference
public import proofs.«01_k».proof.Proof.Gen.Kernel4Ideal.Value
public import Idealize.ShloMosaic.Lib.KernelVsHost
public import Idealize.ShloMosaic.Lib.Claim
public import Idealize.ShloMosaic.Lib.Routing.OpsSet
public import Idealize.ShloMosaic.Lib.Routing.OpsPair

@[expose] public section

set_option maxRecDepth 16384

noncomputable section

namespace Cert.Proof.Ada

open Cert.Kernel4Ideal Cert.Kernel4Ideal.Gen
open Idealize.ShloMosaic Idealize.ShloMosaic.TcCoe Idealize.SL.Sem
open Cert.Proof.AdaReference (entry swish)

/-! ## The rows that the host lays -/

/-- A row index as the host's index word. -/
def word (k : BitVec 32) : IVec S1 32 := broadcastInDim S1 ![] bcast_S_S1 (constantI S_ 32 k)

/-- A vector laid into one row. -/
def laid (x : FVec Ideal S8x2048 .f32) (k : BitVec 32) (u : FVec Ideal S2048 .f32) : FVec Ideal S8x2048 .f32 :=
  Host.scatter scatter_S8x2048_S1_S2048_0_0_0_0 (fun _ b => b) x (word k) u

/-- Entry `d` of the vector lands in column `d` of the row of the index word. -/
theorem lands (k : BitVec 32) (d e : Fin 2048) (r : Fin 8) :
    scatter_S8x2048_S1_S2048_0_0_0_0.resultIdx? (ix1 d) (word k) = some (ix2 r e) ↔ k.toInt = (r.val : Int) ∧ d = e := by
  have hs0 : scatter_S8x2048_S1_S2048_0_0_0_0.start (ix1 d) (word k) 0 = k.toInt := rfl
  have hs1 : scatter_S8x2048_S1_S2048_0_0_0_0.start (ix1 d) (word k) 1 = 0 := rfl
  have hw0 : scatter_S8x2048_S1_S2048_0_0_0_0.window (ix1 d) 0 = 0 := rfl
  have hw1 : scatter_S8x2048_S1_S2048_0_0_0_0.window (ix1 d) 1 = d.val := rfl
  refine (Routing.resultIdx?_ix2 (R := 8) (C := 2048) scatter_S8x2048_S1_S2048_0_0_0_0 (ix1 d) (word k) r e).trans ?_
  rw [hs0, hs1, hw0, hw1, Fin.ext_iff]
  omega

theorem laid_hit (x : FVec Ideal S8x2048 .f32) (k : BitVec 32) (u : FVec Ideal S2048 .f32) (r : Fin 8) (e : Fin 2048) (h : k.toInt = (r.val : Int)) :
    laid x k u (ix2 r e) = u (ix1 e) := by
  refine Routing.scatter_set_hit _ x (word k) u _ _ (fun j hj => ?_) (ix1 e) ((lands k e e r).2 ⟨h, rfl⟩)
  have hj1 : j = ix1 (j 0) := funext fun b => by
    match b with
    | 0 => rfl
  rw [hj1] at hj ⊢
  exact congrArg (fun d => u (ix1 d)) ((lands k _ e r).1 hj).2

theorem laid_miss (x : FVec Ideal S8x2048 .f32) (k : BitVec 32) (u : FVec Ideal S2048 .f32) (r : Fin 8) (e : Fin 2048) (h : ¬k.toInt = (r.val : Int)) :
    laid x k u (ix2 r e) = x (ix2 r e) := by
  refine Routing.scatter_set_miss _ x (word k) u _ fun j hj => ?_
  have hj1 : j = ix1 (j 0) := funext fun b => by
    match b with
    | 0 => rfl
  rw [hj1] at hj
  exact h ((lands k _ e r).1 hj).1

/-- The rows as the region finds them. -/
def stacked (p : FVec Ideal S1x2048 .f32) (q : FVec Ideal S2048 .f32) : FVec Ideal S8x2048 .f32 :=
  laid (laid (broadcastInDim S8x2048 ![] bcast_S_S8x2048 (constant S_ .f32 0x00000000#32)) 0#32 (shapeCast S2048 p shapeCasts_S1x2048_S2048)) 1#32 q

theorem vector_apply (p : FVec Ideal S1x2048 .f32) (e : Fin 2048) : shapeCast S2048 p shapeCasts_S1x2048_S2048 (ix1 e) = p (ix2 0 e) := by
  pointwise []

theorem stacked_apply (p : FVec Ideal S1x2048 .f32) (q : FVec Ideal S2048 .f32) (r : Fin 8) (e : Fin 2048) : stacked p q (ix2 r e) = entry p q r e := by
  have t0 : (0#32).toInt = 0 := by decide
  have t1 : (1#32).toInt = 1 := by decide
  unfold stacked entry
  by_cases h1 : r.val = 1
  · rw [if_pos h1, laid_hit _ _ _ _ _ (by rw [t1]; omega)]
  · rw [if_neg h1, laid_miss _ _ _ _ _ (by rw [t1]; omega)]
    by_cases h0 : r.val = 0
    · rw [if_pos h0, laid_hit _ _ _ _ _ (by rw [t0]; omega), vector_apply]
    · rw [if_neg h0, laid_miss _ _ _ _ _ (by rw [t0]; omega), ← Ideal.ofBits_zero_f32]
      rfl

/-! ## One tile of columns -/

theorem tile_apply (x : FVec Ideal S8x2048 .f32) (w : FVec Ideal S2048x2048 .f32) (b : FVec Ideal S1x2048 .f32) (r : Fin 8) (e : Fin 2048) :
    k0_pay1 (F := Ideal) x w b (ix2 r e) = (∑ d : Fin 2048, swish (x (ix2 r d)) * w (ix2 d e)) + b (ix2 0 e) := by
  unfold swish
  pointwise [k0_pay1]

theorem hz : (![0, 0] : Fin 2 → Nat) = fun _ => 0 := funext fun a => by fin_cases a <;> rfl

theorem out3_eq (x0 : FVec Ideal S8x2048 .f32) (x1 : FVec Ideal S2048x2048 .f32) (x2 : FVec Ideal S1x2048 .f32) :
    out0_3 (F := Ideal) x0 x1 x2 = k0_pay1 (F := Ideal) x0 x1 x2 := by
  unfold out0_3
  rw [View.canon_unit_zero hz]
  simp only [View.ld_unit_zero (S := S8x2048) hz, View.ld_unit_zero (S := S2048x2048) hz, View.ld_unit_zero (S := S1x2048) hz]

/-! ## What a point finds -/

variable (m : (ℓ : Loc nD τ sig) → Buf (Elt Ideal) ℓ) (c : Dev nD)

/-- The weight as the region finds it. -/
def weight (w : FVec Ideal S1x2048x12288 .f32) : FVec Ideal S2048x12288 .f32 := shapeCast S2048x12288 w shapeCasts_S1x2048x12288_S2048x12288

/-- The bias as the region finds it. -/
def bias (b : FVec Ideal S1x12288 .f32) : FVec Ideal S1x12288 .f32 :=
  shapeCast S1x12288 (shapeCast S12288 b shapeCasts_S1x12288_S12288) shapeCasts_S12288_S1x12288

theorem weight_apply (w : FVec Ideal S1x2048x12288 .f32) (d : Fin 2048) (e : Fin 12288) : weight w (ix2 d e) = w (ix3 0 d e) := by
  pointwise [weight]

theorem bias_apply (b : FVec Ideal S1x12288 .f32) (e : Fin 12288) : bias b (ix2 0 e) = b (ix2 0 e) := by
  unfold bias
  rw [shapeCast_shapeCast]

theorem V_main_v5 : V m c main_v5 = stacked (m ((c : Thread nD τ).loc main_arg0)) (m ((c : Thread nD τ).loc main_arg1)) := by
  unfold V
  simp only [hostOps0]
  after_results_simp <;> rfl

theorem V_main_v6 : V m c main_v6 = weight (m ((c : Thread nD τ).loc main_arg2)) := by
  unfold V
  simp only [hostOps0]
  after_results_simp <;> rfl

theorem V_main_v8 : V m c main_v8 = bias (m ((c : Thread nD τ).loc main_arg3)) := by
  unfold V
  simp only [hostOps0]
  after_results_simp <;> rfl

theorem index0 : ∀ t : Fin cfg0.N, win0_0.index t 0 = 0 ∧ win0_0.index t 1 = 0 := by decide +kernel
theorem index1 : ∀ t : Fin cfg0.N, win0_1.index t 0 = 0 ∧ win0_1.index t 1 = t.val := by decide +kernel
theorem index2 : ∀ t : Fin cfg0.N, win0_2.index t 0 = 0 ∧ win0_2.index t 1 = t.val := by decide +kernel
theorem index3 : ∀ t : Fin cfg0.N, win0_3.index t 0 = 0 ∧ win0_3.index t 1 = t.val := by decide +kernel

theorem point_lt (t : Fin cfg0.N) : t.val < 6 := lt_of_lt_of_eq t.isLt N_0

/-- The column of the arrays at column `e` of a point's block. -/
def colOf (t : Fin cfg0.N) (e : Fin 2048) : Fin 12288 := ⟨2048 * t.val + e.val, by have := point_lt t; omega⟩

/-- An index of a tile's block inside a whole array, its block of columns being the point's. -/
theorem at_col {k : ℕ} (t : Fin cfg0.N) (d : Fin k) (e : Fin 2048) (y : (⟨2, ![k, 12288]⟩ : Shape).Idx) (i0 i1 : ℕ) (hi0 : i0 = 0) (hi1 : i1 = t.val)
    (h0 : (y 0).val = i0 * k + 1 * d.val) (h1 : (y 1).val = i1 * 2048 + 1 * e.val) : y = ix2 d (colOf t e) := by
  subst hi0 hi1
  funext b
  apply Fin.ext
  match b with
  | 0 => show (y 0).val = d.val; omega
  | 1 => show (y 1).val = 2048 * t.val + e.val; omega

theorem block0 (t : Fin cfg0.N) (r : Fin 8) (d : Fin 2048) :
    iblk m c 0 t (ix2 r d) = entry (m ((c : Thread nD τ).loc main_arg0)) (m ((c : Thread nD τ).loc main_arg1)) r d := by
  have he : iblk m c 0 t (ix2 r d) = V m c main_v5 ((win0_0.rect t).emb (ix2 r d)) := rfl
  rw [he, V_main_v5, ← stacked_apply]
  refine congrArg _ (funext fun b => Fin.ext ?_)
  match b with
  | 0 => show win0_0.index t 0 * 8 + 1 * r.val = r.val; rw [(index0 t).1]; omega
  | 1 => show win0_0.index t 1 * 2048 + 1 * d.val = d.val; rw [(index0 t).2]; omega

theorem block1 (t : Fin cfg0.N) (d e : Fin 2048) :
    iblk m c 1 t (ix2 d e) = (m ((c : Thread nD τ).loc main_arg2) : FVec Ideal S1x2048x12288 .f32) (ix3 0 d (colOf t e)) := by
  have he : iblk m c 1 t (ix2 d e) = V m c main_v6 ((win0_1.rect t).emb (ix2 d e)) := rfl
  rw [he, V_main_v6, ← weight_apply (m ((c : Thread nD τ).loc main_arg2))]
  exact congrArg _ (at_col t d e _ _ _ (index1 t).1 (index1 t).2 rfl rfl)

theorem block2 (t : Fin cfg0.N) (e : Fin 2048) :
    iblk m c 2 t (ix2 (0 : Fin 1) e) = (m ((c : Thread nD τ).loc main_arg3) : FVec Ideal S1x12288 .f32) (ix2 (0 : Fin 1) (colOf t e)) := by
  have he : iblk m c 2 t (ix2 (0 : Fin 1) e) = V m c main_v8 ((win0_2.rect t).emb (ix2 (0 : Fin 1) e)) := rfl
  rw [he, V_main_v8, ← bias_apply (m ((c : Thread nD τ).loc main_arg3))]
  exact congrArg _ (at_col t (0 : Fin 1) e _ _ _ (index2 t).1 (index2 t).2 rfl rfl)

/-! ## The result array -/

/-- The reference's formula over the kernel's arguments. -/
def target : FVec Ideal S8x12288 .f32 :=
  AdaReference.modulation (AdaReference.stacked (m ((c : Thread nD τ).loc main_arg0)) (m ((c : Thread nD τ).loc main_arg1))) (m ((c : Thread nD τ).loc main_arg2))
    (m ((c : Thread nD τ).loc main_arg3))

/-- A tile against the reference, its blocks' entries given. -/
theorem tile_eq (p : FVec Ideal S1x2048 .f32) (q : FVec Ideal S2048 .f32) (w : FVec Ideal S1x2048x12288 .f32) (b : FVec Ideal S1x12288 .f32)
    (x0 : FVec Ideal S8x2048 .f32) (x1 : FVec Ideal S2048x2048 .f32) (x2 : FVec Ideal S1x2048 .f32) (r : Fin 8) (e : Fin 2048) (n : Fin 12288)
    (h0 : ∀ d : Fin 2048, x0 (ix2 r d) = entry p q r d) (h1 : ∀ d : Fin 2048, x1 (ix2 d e) = w (ix3 0 d n)) (h2 : x2 (ix2 0 e) = b (ix2 0 n)) :
    k0_pay1 (F := Ideal) x0 x1 x2 (ix2 r e) = AdaReference.modulation (AdaReference.stacked p q) w b (ix2 r n) := by
  rw [tile_apply, AdaReference.modulation_apply, h2]
  congr 1
  exact Finset.sum_congr rfl fun d _ => by rw [h0, h1, AdaReference.stacked_apply]

/-- A point's tile is its columns of the reference's result. -/
theorem cols (t : Fin cfg0.N) (r : Fin 8) (e : Fin 2048) : k0_pay1 (F := Ideal) (iblk m c 0 t) (iblk m c 1 t) (iblk m c 2 t) (ix2 r e) = target m c (ix2 r (colOf t e)) :=
  tile_eq _ _ _ _ _ _ _ r e (colOf t e) (block0 m c t r) (fun d => block1 m c t d e) (block2 m c t e)

/-- Where a point's block lies in the result array. -/
theorem place (t : Fin cfg0.N) (r : Fin 8) (e : Fin 2048) : ((cfg0.win 3).blk t).view.emb (ix2 r e) = ix2 r (colOf t e) :=
  at_col t r e _ _ _ (index3 t).1 (index3 t).2 rfl rfl

/-- A point's write-back is its block of the reference's result. -/
theorem flushed_eq (t : Fin cfg0.N) : (dats m 0 c).flushed 3 t = ((cfg0.win 3).blk t).view.read (Elt Ideal) (target m c) := by
  rw [Value.flushed3, out3_eq]
  funext y
  have hy : y = ix2 (⟨(y 0).val, (y 0).isLt⟩ : Fin 8) (⟨(y 1).val, (y 1).isLt⟩ : Fin 2048) := funext fun b => by
    match b with
    | 0 => rfl
    | 1 => rfl
  rw [hy]
  exact (cols m c t _ _).trans (congrArg (target m c) (place t _ _).symm)

/-- An index of the result array lies in a point's block. -/
theorem in_block (i : S8x12288.Idx) : ∃ (t : Fin cfg0.N) (r : Fin 8) (e : Fin 2048), ix2 r (colOf t e) = i := by
  have hi0 : (i 0).val < 8 := (i 0).isLt
  have hi1 : (i 1).val < 12288 := (i 1).isLt
  have hN : cfg0.N = 6 := N_0
  refine ⟨⟨(i 1).val / 2048, by omega⟩, ⟨(i 0).val, hi0⟩, ⟨(i 1).val % 2048, by omega⟩, funext fun b => Fin.ext ?_⟩
  match b with
  | 0 => rfl
  | 1 => show 2048 * ((i 1).val / 2048) + (i 1).val % 2048 = (i 1).val; omega

/-- The result array ends holding the reference's result. -/
theorem array_eq : (dats m 0 c).arrAt 3 cfg0.N = target m c :=
  (dats m 0 c).arrAt_eq_of_cover 3 _ (fun t _ => flushed_eq m c t) fun i => by
    obtain ⟨t, r, e, h⟩ := in_block i
    exact ⟨t, flush0_3 t, by rw [← h, ← place t r e]; exact View.emb_mem_set _ _⟩

end Cert.Proof.Ada

end
-- ==== Proof.lean ====
/-
  The claim: for each of the four calls, the frames of the kernel, of its ideal program and of the reference, and the equality of their results.
-/
module

public import proofs.«01_k».proof.Defs
public import proofs.«01_k».proof.Proof.KernelRun
public import proofs.«01_k».proof.Proof.Whole
public import Idealize.ShloMosaic.Lib.Claim
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Ffn
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Out
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Ada
public import proofs.«01_k».proof.Proof.Gen.Reference4Ideal
public import proofs.«01_k».proof.Proof.Gen.Reference4Ideal.Run

@[expose] public section

noncomputable section

namespace Cert.Proof

open Idealize.ShloMosaic Idealize.SL.Sem

/-- The reference has no counters; its run leaves the arguments as they were. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run (Cert.ReferenceIdeal.defs (F := Ideal)) _ _).mono (fun r h => ⟨fun c => (h c).2, sem_eq_zero_of_no_sems rfl r.2⟩)
    (Cert.ReferenceIdeal.Value.run m ρ)

/-- The kernel's run ends with the whole result, on finite arguments, the arguments as they were. -/
theorem kernel_run (m : (ℓ : Loc Cert.KernelIdeal.nD Cert.KernelIdeal.τ Cert.KernelIdeal.sig) → Buf (Elt Ideal) ℓ) (ρ : Dev Cert.KernelIdeal.nD → PrngReg)
    (hr : ∀ c, KernelIdeal.ArgsReal m c) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8) = KernelIdeal.whole m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  exact (θ_run (Cert.KernelIdeal.defs (F := Ideal)) _ _).mono (fun r h c => ⟨((h.1.1 c).1 7).trans (KernelIdeal.arrAt_eq (hr c)), h.2.1 c⟩)
    (θ_run_and (KernelIdeal.run_main m ρ) (KernelIdeal.frame m ρ))

/-- The kernel's result is the reference's, on finite arguments. -/
theorem results_equal : Cert.algebraic_KernelIdeal_ReferenceIdeal_pre_finite (hKernelIdeal := Cert.KernelIdeal.Gen.facts)
    (hReferenceIdeal := Cert.ReferenceIdeal.Gen.facts) (hPre_finite := KernelIdeal.preFacts) := fun m ρ m' ρ' hpre hargs => by
  have hr : ∀ c, KernelIdeal.ArgsReal m c := fun c => KernelIdeal.argsReal m c (hpre c)
  refine ⟨fun c => KernelIdeal.whole m c, kernel_run m ρ hr, ?_⟩
  refine (θ_run (Cert.ReferenceIdeal.defs (F := Ideal)) _ _).mono (fun r h c => ⟨(h c).1.trans ?_, (h c).2⟩) (Cert.ReferenceIdeal.Value.run m' ρ')
  obtain ⟨h0, h1, h2, h3, h4, h5, h6⟩ := hargs c
  rw [Reference.result_eq, h0, h1, h2, h3, h4, h5, h6]
  rfl

/-- The feed-forward reference has no counters; its run leaves the arguments as they were. -/
theorem reference2_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
        ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0) :=
  (θ_run (Cert.Reference2Ideal.defs (F := Ideal)) _ _).mono (fun r h => ⟨fun c => (h c).2, sem_eq_zero_of_no_sems rfl r.2⟩)
    (Cert.Reference2Ideal.Value.run m ρ)

/-- The feed-forward kernel's run ends with the reference's formula of its arguments, the arguments as they were. -/
theorem kernel2_run (m : (ℓ : Loc Cert.Kernel2Ideal.nD Cert.Kernel2Ideal.τ Cert.Kernel2Ideal.sig) → Buf (Elt Ideal) ℓ) (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩ (fun r => ∀ c : Dev Cert.Kernel2Ideal.nD,
      r.2.mem ((c.tc : Thread Cert.Kernel2Ideal.nD Cert.Kernel2Ideal.τ).loc Cert.Kernel2Ideal.main_v15) = Ffn.target m c
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)) :=
  (θ_run (Cert.Kernel2Ideal.defs (F := Ideal)) _ _).mono (fun r h c => ⟨((h.1 c).1 11).trans (Ffn.array_eq m c), h.2.1 c⟩)
    (θ_run_and (Cert.Kernel2Ideal.Gen.run_main m ρ) (Cert.Kernel2Ideal.Gen.frame m ρ))

/-- The feed-forward kernel's result is the reference's. -/
theorem results_equal2 : Cert.algebraic_Kernel2Ideal_Reference2Ideal (hKernel2Ideal := Cert.Kernel2Ideal.Gen.facts) (hReference2Ideal := Cert.Reference2Ideal.Gen.facts) :=
  fun m ρ m' ρ' _ hargs => by
  refine ⟨fun c => Ffn.target m c, kernel2_run m ρ, ?_⟩
  refine (θ_run (Cert.Reference2Ideal.defs (F := Ideal)) _ _).mono (fun r h c => ⟨(h c).1.trans ?_, (h c).2⟩) (Cert.Reference2Ideal.Value.run m' ρ')
  obtain ⟨h0, h1, h2, h3, h4, h5, h6, h7, h8⟩ := hargs c
  refine (FfnReference.result_eq m' c).trans ?_
  rw [h0, h1, h2, h3, h4, h5, h6, h7, h8]
  rfl

/-- Every name in the feed-forward kernel stands for the constant the kernel computes with. -/
theorem constants_named : Cert.preserves_Kernel2_Kernel2Ideal :=
  ⟨IdealRules.named_const.statement Cert.Kernel2Ideal.κ "k0c" .f32 0xBDD2D3E8#32 _ rfl,
    IdealRules.named_const.statement Cert.Kernel2Ideal.κ "k0" .f32 0xC0135761#32 _ rfl⟩

/-- The output projection's reference has no counters; its run leaves the arguments as they were. -/
theorem reference3_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
        ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0) :=
  (θ_run (Cert.Reference3Ideal.defs (F := Ideal)) _ _).mono (fun r h => ⟨fun c => (h c).2.2, sem_eq_zero_of_no_sems rfl r.2⟩)
    (Cert.Reference3Ideal.Value.run m ρ)

/-- The output projection's run ends with the reference's two formulas of its arguments, the arguments as they were. -/
theorem kernel3_run (m : (ℓ : Loc Cert.Kernel3Ideal.nD Cert.Kernel3Ideal.τ Cert.Kernel3Ideal.sig) → Buf (Elt Ideal) ℓ) (ρ : Dev Cert.Kernel3Ideal.nD → PrngReg) :
    θ_run (Cert.Kernel3Ideal.defs (F := Ideal)) (onTc (τ := Cert.Kernel3Ideal.τ) (Cert.Kernel3Ideal.main (F := Ideal))) ⟨m, fun _ => 0, ρ⟩ (fun r => ∀ c : Dev Cert.Kernel3Ideal.nD,
      r.2.mem ((c.tc : Thread Cert.Kernel3Ideal.nD Cert.Kernel3Ideal.τ).loc Cert.Kernel3Ideal.main_v4_0) = Out.target1 m c
      ∧ r.2.mem ((c.tc : Thread Cert.Kernel3Ideal.nD Cert.Kernel3Ideal.τ).loc Cert.Kernel3Ideal.main_v4_1) = Out.target2 m c
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)) :=
  (θ_run (Cert.Kernel3Ideal.defs (F := Ideal)) _ _).mono (fun r h c => ⟨(h c).1.trans (Out.array1 m c), (h c).2.1.trans (Out.array2 m c), (h c).2.2⟩)
    (Cert.Kernel3Ideal.Value.run_blocks m ρ)

/-- The output projection's two results are the reference's. -/
theorem results_equal3 : Cert.algebraic_Kernel3Ideal_Reference3Ideal (hKernel3Ideal := Cert.Kernel3Ideal.Gen.facts) (hReference3Ideal := Cert.Reference3Ideal.Gen.facts) :=
  fun m ρ m' ρ' _ hargs => by
  refine ⟨fun c => Out.target1 m c, fun c => Out.target2 m c, kernel3_run m ρ, ?_⟩
  refine (θ_run (Cert.Reference3Ideal.defs (F := Ideal)) _ _).mono (fun r h c => ⟨(h c).1.trans ?_, (h c).2.1.trans ?_, (h c).2.2⟩) (Cert.Reference3Ideal.Value.run m' ρ')
  · obtain ⟨h0, h1, h2, h3, h4, h5, h6, h7, h8, h9⟩ := hargs c
    rw [h0, h1, h2, h3, h4, h5, h6]
    rfl
  · obtain ⟨h0, h1, h2, h3, h4, h5, h6, h7, h8, h9⟩ := hargs c
    refine (OutReference.result_eq m' c).trans ?_
    rw [h0, h1, h2, h3, h4, h5, h6, h7, h8, h9]
    rfl

/-- Every name in the output projection's kernel stands for the constant the kernel computes with. -/
theorem constants_named3 : Cert.preserves_Kernel3_Kernel3Ideal :=
  ⟨IdealRules.named_const.statement Cert.Kernel3Ideal.κ "k0c" .f32 0xBDD2D3E8#32 _ rfl,
    IdealRules.named_const.statement Cert.Kernel3Ideal.κ "k0" .f32 0xC0135761#32 _ rfl⟩

/-- The modulation's reference has no counters; its run leaves the arguments as they were. -/
theorem reference4_frame (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0) :=
  (θ_run (Cert.Reference4Ideal.defs (F := Ideal)) _ _).mono (fun r h => ⟨fun c => (h c).2, sem_eq_zero_of_no_sems rfl r.2⟩)
    (Cert.Reference4Ideal.Value.run m ρ)

/-- The modulation's run ends with the reference's formula of its arguments, the arguments as they were. -/
theorem kernel4_run (m : (ℓ : Loc Cert.Kernel4Ideal.nD Cert.Kernel4Ideal.τ Cert.Kernel4Ideal.sig) → Buf (Elt Ideal) ℓ) (ρ : Dev Cert.Kernel4Ideal.nD → PrngReg) :
    θ_run (Cert.Kernel4Ideal.defs (F := Ideal)) (onTc (τ := Cert.Kernel4Ideal.τ) (Cert.Kernel4Ideal.main (F := Ideal))) ⟨m, fun _ => 0, ρ⟩ (fun r => ∀ c : Dev Cert.Kernel4Ideal.nD,
      r.2.mem ((c.tc : Thread Cert.Kernel4Ideal.nD Cert.Kernel4Ideal.τ).loc Cert.Kernel4Ideal.main_v9) = Ada.target m c
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)) :=
  (θ_run (Cert.Kernel4Ideal.defs (F := Ideal)) _ _).mono (fun r h c => ⟨(h c).1.trans (Ada.array_eq m c), (h c).2⟩)
    (Cert.Kernel4Ideal.Value.run_blocks m ρ)

/-- The modulation's result is the reference's. -/
theorem results_equal4 : Cert.algebraic_Kernel4Ideal_Reference4Ideal (hKernel4Ideal := Cert.Kernel4Ideal.Gen.facts) (hReference4Ideal := Cert.Reference4Ideal.Gen.facts) :=
  fun m ρ m' ρ' _ hargs => by
  refine ⟨fun c => Ada.target m c, kernel4_run m ρ, ?_⟩
  refine (θ_run (Cert.Reference4Ideal.defs (F := Ideal)) _ _).mono (fun r h c => ⟨(h c).1.trans ?_, (h c).2⟩) (Cert.Reference4Ideal.Value.run m' ρ')
  obtain ⟨h0, h1, h2, h3⟩ := hargs c
  rw [h0, h1, h2, h3]
  rfl

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, KernelIdeal.preFacts,
    fun m ρ _ => Kernel.frame m ρ, fun m ρ _ => KernelIdeal.frame m ρ, fun m ρ _ => KernelIdeal.frame m ρ, fun m ρ _ => reference_frame m ρ,
    fun m ρ _ => reference_frame m ρ, fun m ρ _ => Cert.Kernel2.Gen.frame m ρ, fun m ρ _ => Cert.Kernel2Ideal.Gen.frame m ρ,
    fun m ρ _ => reference2_frame m ρ, fun m ρ _ => Cert.Kernel3.Gen.frame m ρ, fun m ρ _ => Cert.Kernel3Ideal.Gen.frame m ρ,
    fun m ρ _ => reference3_frame m ρ, fun m ρ _ => Cert.Kernel4.Gen.frame m ρ, fun m ρ _ => Cert.Kernel4Ideal.Gen.frame m ρ,
    fun m ρ _ => reference4_frame m ρ, trivial, results_equal, constants_named, results_equal2, constants_named3, results_equal3,
    trivial, results_equal4⟩

end Cert.Proof

end
